-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x7168 : Shape := ⟨3, ![2, 4096, 7168]⟩
abbrev S7168x2560 : Shape := ⟨2, ![7168, 2560]⟩
abbrev S2560 : Shape := ⟨1, ![2560]⟩
abbrev S256x256 : Shape := ⟨2, ![256, 256]⟩
abbrev S1x2560 : Shape := ⟨2, ![1, 2560]⟩
abbrev S2x4096x2560 : Shape := ⟨3, ![2, 4096, 2560]⟩
abbrev S2x4096x1 : Shape := ⟨3, ![2, 4096, 1]⟩
abbrev S1x256x7168 : Shape := ⟨3, ![1, 256, 7168]⟩
abbrev S1x256x2560 : Shape := ⟨3, ![1, 256, 2560]⟩
abbrev S1x256x1 : Shape := ⟨3, ![1, 256, 1]⟩
abbrev S256x7168 : Shape := ⟨2, ![256, 7168]⟩
abbrev S256x1 : Shape := ⟨2, ![256, 1]⟩
abbrev S4x1792x512 : Shape := ⟨3, ![4, 1792, 512]⟩
abbrev S1x256x256 : Shape := ⟨3, ![1, 256, 256]⟩
abbrev S1024x256 : Shape := ⟨2, ![1024, 256]⟩
abbrev S256 : Shape := ⟨1, ![256]⟩
abbrev S1792x512 : Shape := ⟨2, ![1792, 512]⟩
abbrev S1x1792x512 : Shape := ⟨3, ![1, 1792, 512]⟩
abbrev S256x1792 : Shape := ⟨2, ![256, 1792]⟩
abbrev S256x512 : Shape := ⟨2, ![256, 512]⟩
abbrev S1x512 : Shape := ⟨2, ![1, 512]⟩
abbrev S1x256x512 : Shape := ⟨3, ![1, 256, 512]⟩

abbrev nBuf : Space → Nat
  | .hbm => 10
  | .vmem => 18
  | .smem => 0
  | _ => 0

abbrev bufTy : (tb : Table) → Fin (tcTables nBuf tb) → BufTy
  | .hbm, ⟨0, _⟩ => ⟨S2x4096x7168, .bf16⟩
  | .hbm, ⟨1, _⟩ => ⟨S7168x2560, .i8⟩
  | .hbm, ⟨2, _⟩ => ⟨S2560, .f32⟩
  | .hbm, ⟨3, _⟩ => ⟨S2560, .f32⟩
  | .hbm, ⟨4, _⟩ => ⟨S256x256, .bf16⟩
  | .hbm, ⟨5, _⟩ => ⟨S1x2560, .f32⟩
  | .hbm, ⟨6, _⟩ => ⟨S1x2560, .f32⟩
  | .hbm, ⟨7, _⟩ => ⟨S2x4096x2560, .bf16⟩
  | .hbm, ⟨8, _⟩ => ⟨S2x4096x7168, .i8⟩
  | .hbm, ⟨9, _⟩ => ⟨S2x4096x1, .f32⟩
  | .local _ .vmem, ⟨0, _⟩ => ⟨S1x256x7168, .bf16⟩
  | .local _ .vmem, ⟨1, _⟩ => ⟨S1x256x7168, .bf16⟩
  | .local _ .vmem, ⟨2, _⟩ => ⟨S256x256, .bf16⟩
  | .local _ .vmem, ⟨3, _⟩ => ⟨S7168x2560, .i8⟩
  | .local _ .vmem, ⟨4, _⟩ => ⟨S1x2560, .f32⟩
  | .local _ .vmem, ⟨5, _⟩ => ⟨S1x2560, .f32⟩
  | .local _ .vmem, ⟨6, _⟩ => ⟨S1x256x2560, .bf16⟩
  | .local _ .vmem, ⟨7, _⟩ => ⟨S1x256x2560, .bf16⟩
  | .local _ .vmem, ⟨8, _⟩ => ⟨S1x256x7168, .i8⟩
  | .local _ .vmem, ⟨9, _⟩ => ⟨S1x256x7168, .i8⟩
  | .local _ .vmem, ⟨10, _⟩ => ⟨S1x256x1, .f32⟩
  | .local _ .vmem, ⟨11, _⟩ => ⟨S1x256x1, .f32⟩
  | .local _ .vmem, ⟨12, _⟩ => ⟨S256x7168, .f32⟩
  | .local _ .vmem, ⟨13, _⟩ => ⟨S256x256, .f32⟩
  | .local _ .vmem, ⟨14, _⟩ => ⟨S256x7168, .i8⟩
  | .local _ .vmem, ⟨15, _⟩ => ⟨S256x1, .f32⟩
  | .local _ .vmem, ⟨16, _⟩ => ⟨S256x7168, .bf16⟩
  | .local _ .vmem, ⟨17, _⟩ => ⟨S4x1792x512, .bf16⟩
  | _, _ => ⟨S2x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c16_i32 : BitVec 32 := 16#32
  let v3 : BitVec 32 := Scalar.divsi v2 c16_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c16_i32 c0_i32_3
  let v10 : BitVec 32 := Scalar.extui v9
  let c0_i32_4 : BitVec 32 := 0#32
  let v11 : BitVec 1 := Scalar.cmpi .slt c16_i32 c0_i32_4
  let v12 : BitVec 32 := Scalar.extui v11
  let v13 : BitVec 32 := Scalar.subi v10 v12
  let v14 : BitVec 1 := Scalar.cmpi .ne v8 v13
  let v15 : BitVec 32 := Scalar.remsi v2 c16_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c16_i32_6 : BitVec 32 := 16#32
  let c0_i32_7 : BitVec 32 := 0#32
  let v20 : BitVec 1 := Scalar.cmpi .eq c16_i32_6 c0_i32_7
  let c1_i32_8 : BitVec 32 := 1#32
  let v21 : BitVec 32 := Scalar.select v20 c1_i32_8 c16_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c16_i32 : BitVec 32 := 16#32
  let v3 : BitVec 32 := Scalar.divsi v2 c16_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c16_i32_6 : BitVec 32 := 16#32
  let c0_i32_7 : BitVec 32 := 0#32
  let v20 : BitVec 1 := Scalar.cmpi .eq c16_i32_6 c0_i32_7
  let c1_i32_8 : BitVec 32 := 1#32
  let v21 : BitVec 32 := Scalar.select v20 c1_i32_8 c16_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_6 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c16_i32 : BitVec 32 := 16#32
  let v3 : BitVec 32 := Scalar.divsi v2 c16_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c16_i32 c0_i32_3
  let v10 : BitVec 32 := Scalar.extui v9
  let c0_i32_4 : BitVec 32 := 0#32
  let v11 : BitVec 1 := Scalar.cmpi .slt c16_i32 c0_i32_4
  let v12 : BitVec 32 := Scalar.extui v11
  let v13 : BitVec 32 := Scalar.subi v10 v12
  let v14 : BitVec 1 := Scalar.cmpi .ne v8 v13
  let v15 : BitVec 32 := Scalar.remsi v2 c16_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c16_i32_6 : BitVec 32 := 16#32
  let c0_i32_7 : BitVec 32 := 0#32
  let v20 : BitVec 1 := Scalar.cmpi .eq c16_i32_6 c0_i32_7
  let c1_i32_8 : BitVec 32 := 1#32
  let v21 : BitVec 32 := Scalar.select v20 c1_i32_8 c16_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_7 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c16_i32 : BitVec 32 := 16#32
  let v3 : BitVec 32 := Scalar.divsi v2 c16_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c16_i32 c0_i32_3
  let v10 : BitVec 32 := Scalar.extui v9
  let c0_i32_4 : BitVec 32 := 0#32
  let v11 : BitVec 1 := Scalar.cmpi .slt c16_i32 c0_i32_4
  let v12 : BitVec 32 := Scalar.extui v11
  let v13 : BitVec 32 := Scalar.subi v10 v12
  let v14 : BitVec 1 := Scalar.cmpi .ne v8 v13
  let v15 : BitVec 32 := Scalar.remsi v2 c16_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c16_i32_6 : BitVec 32 := 16#32
  let c0_i32_7 : BitVec 32 := 0#32
  let v20 : BitVec 1 := Scalar.cmpi .eq c16_i32_6 c0_i32_7
  let c1_i32_8 : BitVec 32 := 1#32
  let v21 : BitVec 32 := Scalar.select v20 c1_i32_8 c16_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

abbrev stage0_0 : Fin 2 → Memref sig .tc .vmem S1x256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7168x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x7168 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x4096x7168 : Shape := ⟨3, ![2, 4096, 7168]⟩
abbrev S7168x2560 : Shape := ⟨2, ![7168, 2560]⟩
abbrev S2560 : Shape := ⟨1, ![2560]⟩
abbrev S128x128 : Shape := ⟨2, ![128, 128]⟩
abbrev S2x4096x56x128 : Shape := ⟨4, ![2, 4096, 56, 128]⟩
abbrev S_ : Shape := ⟨0, ![]⟩
abbrev S2x4096 : Shape := ⟨2, ![2, 4096]⟩
abbrev S2x4096x1 : Shape := ⟨3, ![2, 4096, 1]⟩
abbrev S2x4096x2560 : Shape := ⟨3, ![2, 4096, 2560]⟩
abbrev S1x1x2560 : Shape := ⟨3, ![1, 1, 2560]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x7168, .bf16⟩
  | .hbm, ⟨1, _⟩ => ⟨S7168x2560, .i8⟩
  | .hbm, ⟨2, _⟩ => ⟨S2560, .f32⟩
  | .hbm, ⟨3, _⟩ => ⟨S2560, .f32⟩
  | .hbm, ⟨4, _⟩ => ⟨S128x128, .f32⟩
  | .hbm, ⟨5, _⟩ => ⟨S2x4096x7168, .f32⟩
  | .hbm, ⟨6, _⟩ => ⟨S2x4096x56x128, .f32⟩
  | .hbm, ⟨7, _⟩ => ⟨S2x4096x56x128, .f32⟩
  | .hbm, ⟨8, _⟩ => ⟨S2x4096x7168, .f32⟩
  | .hbm, ⟨9, _⟩ => ⟨S2x4096x7168, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .i1⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S2x4096x7168, .f32⟩
  | .hbm, ⟨23, _⟩ => ⟨S2x4096x7168, .f32⟩
  | .hbm, ⟨24, _⟩ => ⟨S2x4096x7168, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2x4096x7168, .f32⟩
  | .hbm, ⟨29, _⟩ => ⟨S2x4096x7168, .f32⟩
  | .hbm, ⟨30, _⟩ => ⟨S_, .f32⟩
  | .hbm, ⟨31, _⟩ => ⟨S2x4096x7168, .f32⟩
  | .hbm, ⟨32, _⟩ => ⟨S2x4096x7168, .f32⟩
  | .hbm, ⟨33, _⟩ => ⟨S2x4096x7168, .i32⟩
  | .hbm, ⟨34, _⟩ => ⟨S2x4096x7168, .f32⟩
  | .hbm, ⟨35, _⟩ => ⟨S7168x2560, .i32⟩
  | .hbm, ⟨36, _⟩ => ⟨S7168x2560, .f32⟩
  | .hbm, ⟨37, _⟩ => ⟨S2x4096x2560, .f32⟩
  | .hbm, ⟨38, _⟩ => ⟨S2x4096x2560, .f32⟩
  | .hbm, ⟨39, _⟩ => ⟨S2x4096x2560, .f32⟩
  | .hbm, ⟨40, _⟩ => ⟨S1x1x2560, .f32⟩
  | .hbm, ⟨41, _⟩ => ⟨S2x4096x2560, .f32⟩
  | .hbm, ⟨42, _⟩ => ⟨S2x4096x2560, .f32⟩
  | .hbm, ⟨43, _⟩ => ⟨S1x1x2560, .f32⟩
  | .hbm, ⟨44, _⟩ => ⟨S2x4096x2560, .f32⟩
  | .hbm, ⟨45, _⟩ => ⟨S2x4096x2560, .f32⟩
  | .hbm, ⟨46, _⟩ => ⟨S2x4096x2560, .bf16⟩
  | .hbm, ⟨47, _⟩ => ⟨S2x4096x7168, .i8⟩
  | _, _ => ⟨S2x4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_cst_5 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Proof.Tile.lean ====
/- What one grid point computes, as plain functions of the blocks it is given, and the payloads of the body read
   as those functions. -/
module

public import proofs.«01_k».proof.Proof.Gen.KernelIdeal.Skeleton
public import Idealize.ShloMosaic.Lib.Pointwise
public import Idealize.ShloMosaic.Lib.Pipeline.ValueKit.Tiles
public import Idealize.ShloMosaic.Lib.Pipeline.ReadBack

@[expose] public section

set_option maxRecDepth 16384

noncomputable section

namespace Cert.KernelIdeal.Body

open Cert.KernelIdeal.Gen
open Idealize.ShloMosaic Idealize.ShloMosaic.TcCoe Idealize.SL.Sem

/-- One 256-lane chunk times the 256 × 256 table, scaled. -/
def rotTile (v : Vec Ideal S1x256x256 .bf16) (h : Vec Ideal S256x256 .bf16) : FVec Ideal S256x256 .f32 := fun j =>
  (∑ k : Fin 256, (v (ix3 (0 : Fin 1) (j 0 : Fin 256) k : S1x256x256.Idx) : EReal) * h (ix2 k (j 1 : Fin 256) : S256x256.Idx)) * Ideal.ofBits .f32 0x3DB504F3#32

variable (a b c d : Vec Ideal S1x256x256 .bf16) (h : Vec Ideal S256x256 .bf16)

theorem slice_stack0 : extractStridedSlice S256x256 ![0, 0] (mulf (F := Ideal) (φ := .f32) (matmul (F := Ideal) (φ₁ := .bf16) (φ₂ := .bf16) dot_S1024x256_S256x256_S1024x256_1_0_0_1_n_n none
      (concatenate S1024x256 0 [⟨S256x256, (shapeCast S256x256 a shapeCasts_S1x256x256_S256x256 : FVec Ideal S256x256 .bf16)⟩, ⟨S256x256, (shapeCast S256x256 b shapeCasts_S1x256x256_S256x256 : FVec Ideal S256x256 .bf16)⟩, ⟨S256x256, (shapeCast S256x256 c shapeCasts_S1x256x256_S256x256 : FVec Ideal S256x256 .bf16)⟩, ⟨S256x256, (shapeCast S256x256 d shapeCasts_S1x256x256_S256x256 : FVec Ideal S256x256 .bf16)⟩] concatenates_S256x256_S256x256_S256x256_S256x256_S1024x256_d0)
      h (constant (F := Ideal) S1024x256 .f32 0x00000000#32)) (broadcast S1024x256 (Scalar.ofBits (F := Ideal) .f32 0x3DB504F3#32))) slices_S1024x256_o0_0_S256x256
    = rotTile a h := by
  funext j
  idx_vars j
  pointwise [rotTile]

theorem slice_stack1 : extractStridedSlice S256x256 ![256, 0] (mulf (F := Ideal) (φ := .f32) (matmul (F := Ideal) (φ₁ := .bf16) (φ₂ := .bf16) dot_S1024x256_S256x256_S1024x256_1_0_0_1_n_n none
      (concatenate S1024x256 0 [⟨S256x256, (shapeCast S256x256 a shapeCasts_S1x256x256_S256x256 : FVec Ideal S256x256 .bf16)⟩, ⟨S256x256, (shapeCast S256x256 b shapeCasts_S1x256x256_S256x256 : FVec Ideal S256x256 .bf16)⟩, ⟨S256x256, (shapeCast S256x256 c shapeCasts_S1x256x256_S256x256 : FVec Ideal S256x256 .bf16)⟩, ⟨S256x256, (shapeCast S256x256 d shapeCasts_S1x256x256_S256x256 : FVec Ideal S256x256 .bf16)⟩] concatenates_S256x256_S256x256_S256x256_S256x256_S1024x256_d0)
      h (constant (F := Ideal) S1024x256 .f32 0x00000000#32)) (broadcast S1024x256 (Scalar.ofBits (F := Ideal) .f32 0x3DB504F3#32))) slices_S1024x256_o256_0_S256x256
    = rotTile b h := by
  funext j
  idx_vars j
  pointwise [rotTile]

theorem slice_stack2 : extractStridedSlice S256x256 ![512, 0] (mulf (F := Ideal) (φ := .f32) (matmul (F := Ideal) (φ₁ := .bf16) (φ₂ := .bf16) dot_S1024x256_S256x256_S1024x256_1_0_0_1_n_n none
      (concatenate S1024x256 0 [⟨S256x256, (shapeCast S256x256 a shapeCasts_S1x256x256_S256x256 : FVec Ideal S256x256 .bf16)⟩, ⟨S256x256, (shapeCast S256x256 b shapeCasts_S1x256x256_S256x256 : FVec Ideal S256x256 .bf16)⟩, ⟨S256x256, (shapeCast S256x256 c shapeCasts_S1x256x256_S256x256 : FVec Ideal S256x256 .bf16)⟩, ⟨S256x256, (shapeCast S256x256 d shapeCasts_S1x256x256_S256x256 : FVec Ideal S256x256 .bf16)⟩] concatenates_S256x256_S256x256_S256x256_S256x256_S1024x256_d0)
      h (constant (F := Ideal) S1024x256 .f32 0x00000000#32)) (broadcast S1024x256 (Scalar.ofBits (F := Ideal) .f32 0x3DB504F3#32))) slices_S1024x256_o512_0_S256x256
    = rotTile c h := by
  funext j
  idx_vars j
  pointwise [rotTile]
  refine congrArg (· * _) (Finset.sum_congr rfl fun k _ => ?_)
  rw [dif_neg (by omega), dif_neg (by omega), dif_pos (by omega)]
  have e : (⟨512 + ↑j0 - 256 - 256, by omega⟩ : Fin 256) = j0 := Fin.ext (by show 512 + (j0 : ℕ) - 256 - 256 = j0; omega)
  rw [e]

theorem slice_stack3 : extractStridedSlice S256x256 ![768, 0] (mulf (F := Ideal) (φ := .f32) (matmul (F := Ideal) (φ₁ := .bf16) (φ₂ := .bf16) dot_S1024x256_S256x256_S1024x256_1_0_0_1_n_n none
      (concatenate S1024x256 0 [⟨S256x256, (shapeCast S256x256 a shapeCasts_S1x256x256_S256x256 : FVec Ideal S256x256 .bf16)⟩, ⟨S256x256, (shapeCast S256x256 b shapeCasts_S1x256x256_S256x256 : FVec Ideal S256x256 .bf16)⟩, ⟨S256x256, (shapeCast S256x256 c shapeCasts_S1x256x256_S256x256 : FVec Ideal S256x256 .bf16)⟩, ⟨S256x256, (shapeCast S256x256 d shapeCasts_S1x256x256_S256x256 : FVec Ideal S256x256 .bf16)⟩] concatenates_S256x256_S256x256_S256x256_S256x256_S1024x256_d0)
      h (constant (F := Ideal) S1024x256 .f32 0x00000000#32)) (broadcast S1024x256 (Scalar.ofBits (F := Ideal) .f32 0x3DB504F3#32))) slices_S1024x256_o768_0_S256x256
    = rotTile d h := by
  funext j
  idx_vars j
  pointwise [rotTile]
  refine congrArg (· * _) (Finset.sum_congr rfl fun k _ => ?_)
  rw [dif_neg (by omega), dif_neg (by omega), dif_neg (by omega)]
  have e : (⟨768 + ↑j0 - 256 - 256 - 256, by omega⟩ : Fin 256) = j0 := Fin.ext (by show 768 + (j0 : ℕ) - 256 - 256 - 256 = j0; omega)
  rw [e]

/-! ## One block of rows -/

/-- Chunk of 256 lanes at lane `o` of the block. -/
def chunk (X : Vec Ideal S1x256x7168 .bf16) (o : ℕ) : Vec Ideal S1x256x256 .bf16 := fun j =>
  X (ix3 (0 : Fin 1) (j 1 : Fin 256) (⟨(o + (j 2).val) % 7168, Nat.mod_lt _ (by decide)⟩ : Fin 7168) : S1x256x7168.Idx)

/-- The rotated rows. -/
def rotV (X : Vec Ideal S1x256x7168 .bf16) (H : Vec Ideal S256x256 .bf16) : FVec Ideal S256x7168 .f32 := fun y =>
  rotTile (chunk X ((y 1).val / 256 * 256)) H (ix2 (y 0 : Fin 256) (⟨(y 1).val % 256, Nat.mod_lt _ (by decide)⟩ : Fin 256) : S256x256.Idx)

/-- The running lane-wise maximum of the magnitudes after `n + 1` chunks. -/
def runMax (X : Vec Ideal S1x256x7168 .bf16) (H : Vec Ideal S256x256 .bf16) : ℕ → FVec Ideal S256x256 .f32
  | 0 => absf (F := Ideal) (rotTile (chunk X 0) H)
  | n + 1 => maximumf (F := Ideal) (runMax X H n) (absf (F := Ideal) (rotTile (chunk X (256 * (n + 1))) H))

/-- The row's greatest magnitude. -/
def rowMax (X : Vec Ideal S1x256x7168 .bf16) (H : Vec Ideal S256x256 .bf16) (r : Fin 256) : EReal :=
  Finset.univ.fold max (Ideal.ofBits .f32 0xFF800000#32) fun q : Fin 7168 => (FloatOps.absf (rotV X H (ix2 r q : S256x7168.Idx)) : Ideal .f32)

/-- The quantiser's scale for a greatest magnitude `a`. -/
def scaleOf (a : EReal) : EReal := if a = 0 then 1 else Ideal.div a (Ideal.ofBits .f32 0x42FE0000#32)

/-- The code of the value `v` at scale `s`. -/
def codeOf (s v : EReal) : BitVec 8 :=
  BitVec.setWidth 8 (FloatOps.fptosi (F := Ideal) (φ := .f32) 32 (Ideal.liftRound Ideal.roundHalfEven
    (min (Ideal.ofBits .f32 0x42FE0000#32) (max (Ideal.ofBits .f32 0xC2FE0000#32) (Ideal.div v s)))))

/-- The scales of the block's rows. -/
def scaleV (X : Vec Ideal S1x256x7168 .bf16) (H : Vec Ideal S256x256 .bf16) : FVec Ideal S256x1 .f32 := fun y => scaleOf (rowMax X H (y 0))

/-- The codes of the block. -/
def codeV (X : Vec Ideal S1x256x7168 .bf16) (H : Vec Ideal S256x256 .bf16) : Vec Ideal S256x7168 .i8 := fun y =>
  codeOf (scaleV X H (ix2 (y 0 : Fin 256) (0 : Fin 1) : S256x1.Idx)) (rotV X H y)

/-- A tile of codes, from a tile of rotated values. -/
def codeTile (s : FVec Ideal S256x1 .f32) (v : FVec Ideal S256x256 .f32) : IVec S256x256 8 := fun j => codeOf (s (ix2 (j 0 : Fin 256) (0 : Fin 1) : S256x1.Idx)) (v j)

theorem quantise_eq (s : FVec Ideal S256x1 .f32) (v : FVec Ideal S256x256 .f32) :
    trunci 8 (fptosi (F := Ideal) 32 (roundeven (F := Ideal) (minimumf (F := Ideal) (broadcast S256x256 (Scalar.ofBits (F := Ideal) .f32 0x42FE0000#32))
      (maximumf (F := Ideal) (broadcast S256x256 (Scalar.ofBits (F := Ideal) .f32 0xC2FE0000#32)) (divf (F := Ideal) v (broadcastTo S256x256 s broadcasts_S256x1_S256x256)))))) natLt_8_32
      = codeTile s v := by
  funext j
  pointwise [codeTile, codeOf]

theorem runMax_le (X : Vec Ideal S1x256x7168 .bf16) (H : Vec Ideal S256x256 .bf16) (j : S256x256.Idx) (z : EReal) (n : ℕ) :
    (runMax X H n j : EReal) ≤ z ↔ ∀ i ≤ n, (FloatOps.absf (rotTile (chunk X (256 * i)) H j) : Ideal .f32) ≤ (z : EReal) := by
  induction n with
  | zero =>
    constructor
    · intro h i hi; obtain rfl : i = 0 := by omega
      exact h
    · intro h; exact h 0 (le_refl _)
  | succ n ih =>
    have e : (runMax X H (n + 1) j : EReal) = max (runMax X H n j : EReal) (FloatOps.absf (rotTile (chunk X (256 * (n + 1))) H j) : Ideal .f32) := rfl
    rw [e, max_le_iff, ih]
    constructor
    · rintro ⟨h1, h2⟩ i hi
      rcases Nat.lt_or_ge i (n + 1) with h | h
      · exact h1 i (by omega)
      · obtain rfl : i = n + 1 := by omega
        exact h2
    · intro h
      exact ⟨fun i hi => h i (by omega), h (n + 1) (le_refl _)⟩

theorem rotV_at (X : Vec Ideal S1x256x7168 .bf16) (H : Vec Ideal S256x256 .bf16) (n : ℕ) (hn : n < 28) (r c : Fin 256) (q : Fin 7168) (hq : q.val = 256 * n + c.val) :
    rotV X H (ix2 r q : S256x7168.Idx) = rotTile (chunk X (256 * n)) H (ix2 r c : S256x256.Idx) := by
  have e1 : q.val / 256 * 256 = 256 * n := by have := c.isLt; omega
  have e2 : (⟨q.val % 256, Nat.mod_lt _ (by decide)⟩ : Fin 256) = c := Fin.ext (by have := c.isLt; show q.val % 256 = c.val; omega)
  show rotTile (chunk X (q.val / 256 * 256)) H (ix2 r (⟨q.val % 256, _⟩ : Fin 256) : S256x256.Idx) = _
  rw [e1, e2]

/-- The greatest over the lanes of the running maxima is the row's greatest. -/
theorem fold_runMax (X : Vec Ideal S1x256x7168 .bf16) (H : Vec Ideal S256x256 .bf16) (r : Fin 256) :
    (Finset.univ.fold max (Ideal.ofBits .f32 0xFF800000#32) fun k : Fin 256 => (runMax X H 27 (ix2 r k : S256x256.Idx) : EReal)) = rowMax X H r := by
  refine eq_of_forall_ge_iff fun z => ?_
  unfold rowMax
  rw [Finset.fold_max_le, Finset.fold_max_le]
  refine and_congr Iff.rfl ?_
  constructor
  · intro h q _
    have h1 := (runMax_le X H _ z 27).1 (h (⟨q.val % 256, Nat.mod_lt _ (by decide)⟩ : Fin 256) (Finset.mem_univ _)) (q.val / 256) (by have := q.isLt; omega)
    rw [rotV_at X H (q.val / 256) (by have := q.isLt; omega) r (⟨q.val % 256, Nat.mod_lt _ (by decide)⟩ : Fin 256) q (by show q.val = 256 * (q.val / 256) + q.val % 256; omega)]
    exact h1
  · intro h k _
    refine (runMax_le X H _ z 27).2 fun i hi => ?_
    have h1 := h (⟨256 * i + k.val, by have := k.isLt; omega⟩ : Fin 7168) (Finset.mem_univ _)
    rw [rotV_at X H i (by omega) r k _ rfl] at h1
    exact h1

theorem scale_eq (X : Vec Ideal S1x256x7168 .bf16) (H : Vec Ideal S256x256 .bf16) : k0_pay105 (F := Ideal) (runMax X H 27) = scaleV X H := by
  funext y
  idx_vars y
  pointwise [k0_pay105]
  rw [fold_runMax X H y0]
  rfl

/-! ## Reads and stores of tiles -/

theorem ld_chunk (X : Vec Ideal S1x256x7168 .bf16) (o : ℕ) (inb : ∀ a, (![0, 0, o] : Fin S1x256x7168.rank → ℕ) a + (![1, 256, 256] : Fin S1x256x7168.rank → ℕ) a ≤ S1x256x7168.size a) :
    View.ld (Val := Elt Ideal) (S := S1x256x7168) (e' := .bf16) X (Rect.unit (s := S1x256x7168) ![0, 0, o] (![1, 256, 256]) inb) = chunk X o := by
  funext j
  refine View.ld_unit_apply_of (Val := Elt Ideal) (S := S1x256x7168) (e := .bf16) X _ _ inb j _ fun a => ?_
  have h2 : o + 256 ≤ 7168 := inb 2
  have j0 : (j 0).val < 1 := (j 0).isLt
  have j2 : (j 2).val < 256 := (j 2).isLt
  fin_cases a
  · show 0 = 0 + (j 0).val; omega
  · show (j 1).val = 0 + (j 1).val; omega
  · show (o + (j 2).val) % 7168 = o + (j 2).val; omega

theorem rotTile_emb (X : Vec Ideal S1x256x7168 .bf16) (H : Vec Ideal S256x256 .bf16) (o : ℕ) (ho : o % 256 = 0) (inb : ∀ a, (![0, o] : Fin S256x7168.rank → ℕ) a + S256x256.size a ≤ S256x7168.size a)
    (x : S256x256.Idx) : rotTile (chunk X o) H x = rotV X H ((Rect.unit (s := S256x7168) ![0, o] S256x256.size inb).emb x) := by
  have h2 : o + 256 ≤ 7168 := inb 1
  have e : ((Rect.unit (s := S256x7168) ![0, o] S256x256.size inb).emb x) = (ix2 (x 0 : Fin 256) (⟨o + (x 1).val, by have : (x 1).val < 256 := (x 1).isLt; omega⟩ : Fin 7168) : S256x7168.Idx) := by
    funext a
    apply Fin.ext
    rw [show (Rect.unit (s := S256x7168) ![0, o] S256x256.size inb).emb x = (Rect.unit (s := S256x7168) ![0, o] S256x256.size inb).idx x from rfl, Rect.idx_unit_val]
    fin_cases a
    · show 0 + (x 0).val = (x 0).val; omega
    · rfl
  rw [e]
  have := rotV_at X H (o / 256) (by omega) (x 0) (x 1) (⟨o + (x 1).val, by have : (x 1).val < 256 := (x 1).isLt; omega⟩ : Fin 7168) (by show o + (x 1).val = 256 * (o / 256) + (x 1).val; omega)
  rw [this, show 256 * (o / 256) = o by omega]
  exact congrArg (rotTile (chunk X o) H) (eq_ix2 x)

/-- A load of a box after stores that are blocks of `G` and cover the buffer reads `G` over the box. -/
theorem readCov_pieces {κ : Kind} {sp : Space} {s : Shape} {e : EltTy} (v : View sig κ sp s e) (G : s.Idx → Elt Ideal e) (L : List (View.Piece (Elt Ideal) s e))
    (hL : View.PiecesOf G L) (hc : ∀ y, ∃ p ∈ L, y ∈ p.1.set) (r : Rect s) : v.readCov L r.toLoadRect = fun j => G (r.emb j) := by
  rw [View.readCov_eq_canon']
  funext j
  exact View.canon_apply_of_pieces G L hL.mem _ (hc _)

/-- Stores that are blocks of `G` and cover the buffer leave `G` in it, whatever it held before. -/
theorem read_pieces {κ : Kind} {sp : Space} {s : Shape} {e : EltTy} (v : View sig κ sp s e) (f : v.ty.Contents (Elt Ideal)) (G : s.Idx → Elt Ideal e) (L : List (View.Piece (Elt Ideal) s e))
    (hL : View.PiecesOf G L) (hc : ∀ y, ∃ p ∈ L, y ∈ p.1.set) : v.read (Elt Ideal) (v.writes (Elt Ideal) f L) = G :=
  funext fun y => View.read_writes_apply_of_pieces v f G L hL.mem y (hc y)

/-- A load of the box stored last reads what was stored. -/
theorem readCov_head {κ : Kind} {sp : Space} {s : Shape} {e : EltTy} (v : View sig κ sp s e) (r : Rect s) (w : r.shape.Idx → Elt Ideal e) (L : List (View.Piece (Elt Ideal) s e)) :
    v.readCov (⟨r, w⟩ :: L) r.toLoadRect = w := by
  rw [View.readCov_eq_canon']
  funext j
  exact View.canon_cons_emb r w L j

/-- The whole of a shape, as a rectangle, moves no index. -/
theorem whole_emb {s : Shape} {α : Type} (G : s.Idx → α) {off : Fin s.rank → ℕ} (inb : ∀ a, off a + s.size a ≤ s.size a) (h : ∀ a, off a = 0) (x : s.Idx) :
    G x = G ((Rect.unit off s.size inb).emb x) := by
  refine congrArg G (funext fun a => Fin.ext ?_)
  rw [show (Rect.unit off s.size inb).emb x = (Rect.unit off s.size inb).idx x from rfl, Rect.idx_unit_val, h a, Nat.zero_add]

theorem emb_tile (o : ℕ) (inb : ∀ a, (![0, o] : Fin S256x7168.rank → ℕ) a + S256x256.size a ≤ S256x7168.size a) (x : S256x256.Idx) :
    ((Rect.unit (s := S256x7168) ![0, o] S256x256.size inb).emb x) 0 = x 0 := by
  apply Fin.ext
  rw [show (Rect.unit (s := S256x7168) ![0, o] S256x256.size inb).emb x = (Rect.unit (s := S256x7168) ![0, o] S256x256.size inb).idx x from rfl, Rect.idx_unit_val]
  show 0 + (x 0).val = (x 0).val
  omega

/-- A tile of codes stored at its place is a block of the codes. -/
theorem codeTile_emb (X : Vec Ideal S1x256x7168 .bf16) (H : Vec Ideal S256x256 .bf16) (o : ℕ) (inb : ∀ a, (![0, o] : Fin S256x7168.rank → ℕ) a + S256x256.size a ≤ S256x7168.size a)
    (x : S256x256.Idx) : codeTile (scaleV X H) (fun j => rotV X H ((Rect.unit (s := S256x7168) ![0, o] S256x256.size inb).emb j)) x
      = codeV X H ((Rect.unit (s := S256x7168) ![0, o] S256x256.size inb).emb x) := by
  unfold codeTile codeV
  rw [emb_tile o inb x]

/-- The codes as the output block holds them. -/
def codeB (X : Vec Ideal S1x256x7168 .bf16) (H : Vec Ideal S256x256 .bf16) : Vec Ideal S1x256x7168 .i8 := fun y => codeV X H (ix2 (y 1 : Fin 256) (y 2 : Fin 7168) : S256x7168.Idx)

/-- The scales as the output block holds them. -/
def scaleB (X : Vec Ideal S1x256x7168 .bf16) (H : Vec Ideal S256x256 .bf16) : Vec Ideal S1x256x1 .f32 := fun y => scaleV X H (ix2 (y 1 : Fin 256) (0 : Fin 1) : S256x1.Idx)

theorem cast_scale (X : Vec Ideal S1x256x7168 .bf16) (H : Vec Ideal S256x256 .bf16) : shapeCast S1x256x1 (scaleV X H) shapeCasts_S256x1_S1x256x1 = scaleB X H := by
  funext y
  idx_vars y
  pointwise [scaleB]

theorem codeB_emb (X : Vec Ideal S1x256x7168 .bf16) (H : Vec Ideal S256x256 .bf16) (o : ℕ) (inb : ∀ a, (![0, o] : Fin S256x7168.rank → ℕ) a + S256x256.size a ≤ S256x7168.size a)
    (inb3 : ∀ a, (![0, 0, o] : Fin S1x256x7168.rank → ℕ) a + S1x256x256.size a ≤ S1x256x7168.size a)
    (x : S1x256x256.Idx) : shapeCast S1x256x256 (codeTile (scaleV X H) (fun j => rotV X H ((Rect.unit (s := S256x7168) ![0, o] S256x256.size inb).emb j))) shapeCasts_S256x256_S1x256x256 x
      = codeB X H ((Rect.unit (s := S1x256x7168) ![0, 0, o] S1x256x256.size inb3).emb x) := by
  have h2 : o + 256 ≤ 7168 := inb 1
  have hx2 : (x 2).val < 256 := (x 2).isLt
  have e : shapeCast S1x256x256 (codeTile (scaleV X H) (fun j => rotV X H ((Rect.unit (s := S256x7168) ![0, o] S256x256.size inb).emb j))) shapeCasts_S256x256_S1x256x256 x
      = codeTile (scaleV X H) (fun j => rotV X H ((Rect.unit (s := S256x7168) ![0, o] S256x256.size inb).emb j)) (ix2 (x 1 : Fin 256) (x 2 : Fin 256) : S256x256.Idx) := by
    pointwise
  rw [e, codeTile_emb]
  unfold codeB
  refine congrArg (codeV X H) (funext fun a => Fin.ext ?_)
  rw [show (Rect.unit (s := S256x7168) ![0, o] S256x256.size inb).emb (ix2 (x 1 : Fin 256) (x 2 : Fin 256) : S256x256.Idx) = (Rect.unit (s := S256x7168) ![0, o] S256x256.size inb).idx (ix2 (x 1 : Fin 256) (x 2 : Fin 256) : S256x256.Idx) from rfl, Rect.idx_unit_val,
    show (Rect.unit (s := S1x256x7168) ![0, 0, o] S1x256x256.size inb3).emb x = (Rect.unit (s := S1x256x7168) ![0, 0, o] S1x256x256.size inb3).idx x from rfl]
  fin_cases a
  · show 0 + (x 1).val = ((Rect.unit (s := S1x256x7168) ![0, 0, o] S1x256x256.size inb3).idx x 1).val
    rw [Rect.idx_unit_val]; rfl
  · show o + (x 2).val = ((Rect.unit (s := S1x256x7168) ![0, 0, o] S1x256x256.size inb3).idx x 2).val
    rw [Rect.idx_unit_val]; rfl

end Cert.KernelIdeal.Body
end
-- ==== Proof.Product.lean ====
/- One block's product with the weights: the widened pieces the ring of slots holds, and a 256 × 512 tile of the
   output read as four partial sums, scaled and shifted. -/
module

public import proofs.«01_k».proof.Proof.Tile

@[expose] public section

set_option maxRecDepth 16384

noncomputable section

namespace Cert.KernelIdeal.Body

open Cert.KernelIdeal.Gen
open Idealize.ShloMosaic Idealize.ShloMosaic.TcCoe Idealize.SL.Sem

/-- A byte as a number. -/
def wide (b : BitVec 8) : EReal := (FloatOps.sitofp (F := Ideal) .bf16 b : Ideal .bf16)

/-- The 1792 × 512 piece of the weights at row `k` and column `n`. -/
def wLd (W : Vec Ideal S7168x2560 .i8) (k n : ℕ) : Vec Ideal S1792x512 .i8 := fun j =>
  W (ix2 (⟨(k + (j 0).val) % 7168, Nat.mod_lt _ (by decide)⟩ : Fin 7168) (⟨(n + (j 1).val) % 2560, Nat.mod_lt _ (by decide)⟩ : Fin 2560) : S7168x2560.Idx)

/-- The same piece widened, as a slot holds it. -/
def wPiece (W : Vec Ideal S7168x2560 .i8) (k n : ℕ) : Vec Ideal S1x1792x512 .bf16 := fun j =>
  wide (W (ix2 (⟨(k + (j 1).val) % 7168, Nat.mod_lt _ (by decide)⟩ : Fin 7168) (⟨(n + (j 2).val) % 2560, Nat.mod_lt _ (by decide)⟩ : Fin 2560) : S7168x2560.Idx))

/-- What the slots hold when slot `s` holds the piece at row `1792 s` and column 0. -/
def ringV (W : Vec Ideal S7168x2560 .i8) : Vec Ideal S4x1792x512 .bf16 := fun y =>
  wPiece W (1792 * (y 0).val) 0 (ix3 (0 : Fin 1) (y 1 : Fin 1792) (y 2 : Fin 512) : S1x1792x512.Idx)

/-- The first three slots hold the first three pieces. -/
def RingOK (W : Vec Ideal S7168x2560 .i8) (d : Vec Ideal S4x1792x512 .bf16) : Prop := ∀ y : S4x1792x512.Idx, (y 0).val < 3 → d y = ringV W y

theorem ld_w (W : Vec Ideal S7168x2560 .i8) (k n : ℕ) (inb : ∀ a, (![k, n] : Fin S7168x2560.rank → ℕ) a + (![1792, 512] : Fin S7168x2560.rank → ℕ) a ≤ S7168x2560.size a) :
    View.ld (Val := Elt Ideal) (S := S7168x2560) (e' := .i8) W (Rect.unit (s := S7168x2560) ![k, n] (![1792, 512]) inb) = wLd W k n := by
  funext j
  refine View.ld_unit_apply_of (Val := Elt Ideal) (S := S7168x2560) (e := .i8) W _ _ inb j _ fun a => ?_
  have h0 : k + 1792 ≤ 7168 := inb 0
  have h1 : n + 512 ≤ 2560 := inb 1
  have j0 : (j 0).val < 1792 := (j 0).isLt
  have j1 : (j 1).val < 512 := (j 1).isLt
  fin_cases a
  · show (k + (j 0).val) % 7168 = k + (j 0).val; omega
  · show (n + (j 1).val) % 2560 = n + (j 1).val; omega

theorem wide_w (W : Vec Ideal S7168x2560 .i8) (k n : ℕ) :
    shapeCast S1x1792x512 (sitofp (F := Ideal) .bf16 (wLd W k n)) shapeCasts_S1792x512_S1x1792x512 = wPiece W k n := by
  funext j
  idx_vars j
  pointwise [wPiece, wLd, wide]

/-- A piece stored in its slot is a block of what the slots hold. -/
theorem wPiece_emb (W : Vec Ideal S7168x2560 .i8) (s : ℕ) (inb : ∀ a, (![s, 0, 0] : Fin S4x1792x512.rank → ℕ) a + S1x1792x512.size a ≤ S4x1792x512.size a) (x : S1x1792x512.Idx) :
    wPiece W (1792 * s) 0 x = ringV W ((Rect.unit (s := S4x1792x512) ![s, 0, 0] S1x1792x512.size inb).emb x) := by
  have hv : ∀ a, (((Rect.unit (s := S4x1792x512) ![s, 0, 0] S1x1792x512.size inb).emb x) a).val = (![s, 0, 0] : Fin S4x1792x512.rank → ℕ) a + (x a).val := fun a => Rect.idx_unit_val ..
  have x0 : (x 0).val < 1 := (x 0).isLt
  unfold ringV
  have h0 := hv 0
  have h1 := hv 1
  have h2 := hv 2
  rw [show (((Rect.unit (s := S4x1792x512) ![s, 0, 0] S1x1792x512.size inb).emb x) 0).val = s from by rw [h0]; show s + (x 0).val = s; omega]
  refine congrArg (wPiece W (1792 * s) 0) (funext fun a => Fin.ext ?_)
  fin_cases a
  · show (x 0).val = 0; omega
  · exact (h1.trans (Nat.zero_add _)).symm
  · exact (h2.trans (Nat.zero_add _)).symm

/-- Reading slot `s` of slots that are in order. -/
theorem ld_ring (W : Vec Ideal S7168x2560 .i8) (d : Vec Ideal S4x1792x512 .bf16) (h : RingOK W d) (s : ℕ) (hs : s < 3)
    (inb : ∀ a, (![s, 0, 0] : Fin S4x1792x512.rank → ℕ) a + (![1, 1792, 512] : Fin S4x1792x512.rank → ℕ) a ≤ S4x1792x512.size a) :
    View.ld (Val := Elt Ideal) (S := S4x1792x512) (e' := .bf16) d (Rect.unit (s := S4x1792x512) ![s, 0, 0] (![1, 1792, 512]) inb) = wPiece W (1792 * s) 0 := by
  funext j
  have j0 : (j 0).val < 1 := (j 0).isLt
  refine (View.ld_unit_apply_of (Val := Elt Ideal) (S := S4x1792x512) (e := .bf16) d _ _ inb j (ix3 (⟨s, by omega⟩ : Fin 4) (j 1 : Fin 1792) (j 2 : Fin 512)) fun a => ?_).trans ?_
  · fin_cases a
    · show s = s + (j 0).val; omega
    · exact (Nat.zero_add _).symm
    · exact (Nat.zero_add _).symm
  · rw [h _ hs]
    show wPiece W (1792 * s) 0 (ix3 (0 : Fin 1) (j 1 : Fin 1792) (j 2 : Fin 512) : S1x1792x512.Idx) = _
    refine congrArg (wPiece W (1792 * s) 0) (funext fun a => Fin.ext ?_)
    fin_cases a
    · show 0 = (j 0).val; omega
    · rfl
    · rfl

theorem slot_mem (s : ℕ) (inb : ∀ a, (![s, 0, 0] : Fin S4x1792x512.rank → ℕ) a + S1x1792x512.size a ≤ S4x1792x512.size a) (y : S4x1792x512.Idx) (hy : (y 0).val = s) :
    y ∈ (Rect.unit (s := S4x1792x512) ![s, 0, 0] S1x1792x512.size inb).set := by
  refine Rect.mem_set_unit.mpr fun a => ?_
  have h1 : (y 1).val < 1792 := (y 1).isLt
  have h2 : (y 2).val < 512 := (y 2).isLt
  fin_cases a
  · show s ≤ (y 0).val ∧ (y 0).val < s + 1; omega
  · show 0 ≤ (y 1).val ∧ (y 1).val < 0 + 1792; omega
  · show 0 ≤ (y 2).val ∧ (y 2).val < 0 + 512; omega

/-- The last three stores, which put the first three pieces into their slots. -/
def ringPieces (W : Vec Ideal S7168x2560 .i8) : List (View.Piece (Elt Ideal) S4x1792x512 .bf16) :=
  [⟨Rect.unit ![2, 0, 0] S1x1792x512.size inb_S4x1792x512_S1x1792x512_2_0_0, wPiece W 3584 0⟩, ⟨Rect.unit ![1, 0, 0] S1x1792x512.size inb_S4x1792x512_S1x1792x512_1_0_0, wPiece W 1792 0⟩,
    ⟨Rect.unit ![0, 0, 0] S1x1792x512.size inb_S4x1792x512_S1x1792x512_0_0_0, wPiece W 0 0⟩]

/-- After any stores, these three leave the slots in order. -/
theorem ring_of_writes {κ : Kind} {sp : Space} (v : View sig κ sp S4x1792x512 .bf16) (W : Vec Ideal S7168x2560 .i8) (f : v.ty.Contents (Elt Ideal))
    (L' : List (View.Piece (Elt Ideal) S4x1792x512 .bf16)) : RingOK W (v.read (Elt Ideal) (v.writes (Elt Ideal) f (ringPieces W ++ L'))) := by
  intro y hy
  rw [View.writes_append]
  have hP : View.PiecesOf (Val := Elt Ideal) (ringV W) (ringPieces W) := ⟨fun x => wPiece_emb W 2 inb_S4x1792x512_S1x1792x512_2_0_0 x, fun x => wPiece_emb W 1 inb_S4x1792x512_S1x1792x512_1_0_0 x, fun x => wPiece_emb W 0 inb_S4x1792x512_S1x1792x512_0_0_0 x, trivial⟩
  refine View.read_writes_apply_of_pieces v _ (ringV W) (ringPieces W) hP.mem y ?_
  obtain h | h | h : (y 0).val = 2 ∨ (y 0).val = 1 ∨ (y 0).val = 0 := by omega
  · exact ⟨_, List.mem_cons_self, slot_mem 2 inb_S4x1792x512_S1x1792x512_2_0_0 y h⟩
  · exact ⟨_, List.mem_cons_of_mem _ List.mem_cons_self, slot_mem 1 inb_S4x1792x512_S1x1792x512_1_0_0 y h⟩
  · exact ⟨_, List.mem_cons_of_mem _ (List.mem_cons_of_mem _ List.mem_cons_self), slot_mem 0 inb_S4x1792x512_S1x1792x512_0_0_0 y h⟩

/-- The block's codes, widened: 1792 lanes at lane `k`. -/
def lhsPiece (C : Vec Ideal S256x7168 .i8) (k : ℕ) : Vec Ideal S256x1792 .bf16 := fun j =>
  wide (C (ix2 (j 0 : Fin 256) (⟨(k + (j 1).val) % 7168, Nat.mod_lt _ (by decide)⟩ : Fin 7168) : S256x7168.Idx))

theorem ld_lhs (C : Vec Ideal S256x7168 .i8) (k : ℕ) (inb : ∀ a, (![0, k] : Fin S256x7168.rank → ℕ) a + (![256, 1792] : Fin S256x7168.rank → ℕ) a ≤ S256x7168.size a) :
    View.ld (Val := Elt Ideal) (S := S256x7168) (e' := .bf16) (sitofp (F := Ideal) .bf16 C : FVec Ideal S256x7168 .bf16) (Rect.unit (s := S256x7168) ![0, k] (![256, 1792]) inb) = lhsPiece C k := by
  funext j
  have h1 : k + 1792 ≤ 7168 := inb 1
  have j1 : (j 1).val < 1792 := (j 1).isLt
  refine View.ld_unit_apply_of (Val := Elt Ideal) (S := S256x7168) (e := .bf16) _ _ _ inb j (ix2 (j 0 : Fin 256) (⟨(k + (j 1).val) % 7168, Nat.mod_lt _ (by decide)⟩ : Fin 7168)) fun a => ?_
  fin_cases a
  · exact (Nat.zero_add _).symm
  · show (k + (j 1).val) % 7168 = k + (j 1).val; omega

/-- A row of 512 lanes at lane `n` of a row of 2560. -/
def rowLd (b : Vec Ideal S1x2560 .f32) (n : ℕ) : Vec Ideal S1x512 .f32 := fun j =>
  b (ix2 (0 : Fin 1) (⟨(n + (j 1).val) % 2560, Nat.mod_lt _ (by decide)⟩ : Fin 2560) : S1x2560.Idx)

theorem ld_row (b : Vec Ideal S1x2560 .f32) (n : ℕ) (inb : ∀ a, (![0, n] : Fin S1x2560.rank → ℕ) a + (![1, 512] : Fin S1x2560.rank → ℕ) a ≤ S1x2560.size a) :
    View.ld (Val := Elt Ideal) (S := S1x2560) (e' := .f32) b (Rect.unit (s := S1x2560) ![0, n] (![1, 512]) inb) = rowLd b n := by
  funext j
  refine View.ld_unit_apply_of (Val := Elt Ideal) (S := S1x2560) (e := .f32) b _ _ inb j _ fun a => ?_
  have h1 : n + 512 ≤ 2560 := inb 1
  have j0 : (j 0).val < 1 := (j 0).isLt
  have j1 : (j 1).val < 512 := (j 1).isLt
  fin_cases a
  · show 0 = 0 + (j 0).val; omega
  · show (n + (j 1).val) % 2560 = n + (j 1).val; omega

/-- A 256 × 1792 by 1792 × 512 product. -/
def dotV (A : Vec Ideal S256x1792 .bf16) (B : Vec Ideal S1x1792x512 .bf16) (r : Fin 256) (n : Fin 512) : EReal :=
  ∑ k : Fin 1792, (A (ix2 r k : S256x1792.Idx) : EReal) * B (ix3 (0 : Fin 1) k n : S1x1792x512.Idx)

variable (A0 A1 A2 A3 : Vec Ideal S256x1792 .bf16) (B0 B1 B2 B3 : Vec Ideal S1x1792x512 .bf16) (s : FVec Ideal S256x1 .f32) (ws b : Vec Ideal S1x512 .f32)

/-- A 256 × 512 tile of the output. -/
def yTile : Vec Ideal S1x256x512 .bf16 := fun j =>
  (dotV A0 B0 (j 1) (j 2) + dotV A1 B1 (j 1) (j 2) + dotV A2 B2 (j 1) (j 2) + dotV A3 B3 (j 1) (j 2)) * s (ix2 (j 1 : Fin 256) (0 : Fin 1) : S256x1.Idx)
    * ws (ix2 (0 : Fin 1) (j 2 : Fin 512) : S1x512.Idx) + b (ix2 (0 : Fin 1) (j 2 : Fin 512) : S1x512.Idx)

theorem y_eq : shapeCast S1x256x512 (truncf (F := Ideal) (φ := .f32) .bf16 (addf (F := Ideal) (φ := .f32) (mulf (F := Ideal) (φ := .f32) (mulf (F := Ideal) (φ := .f32)
      (addf (F := Ideal) (φ := .f32) (addf (F := Ideal) (φ := .f32) (addf (F := Ideal) (φ := .f32)
        (matmul (F := Ideal) (φ₁ := .bf16) (φ₂ := .bf16) dot_S256x1792_S1792x512_S256x512_1_0_0_1_n_n none A0 (shapeCast S1792x512 B0 shapeCasts_S1x1792x512_S1792x512 : FVec Ideal S1792x512 .bf16) (constant (F := Ideal) S256x512 .f32 0x00000000#32))
        (matmul (F := Ideal) (φ₁ := .bf16) (φ₂ := .bf16) dot_S256x1792_S1792x512_S256x512_1_0_0_1_n_n none A1 (shapeCast S1792x512 B1 shapeCasts_S1x1792x512_S1792x512 : FVec Ideal S1792x512 .bf16) (constant (F := Ideal) S256x512 .f32 0x00000000#32)))
        (matmul (F := Ideal) (φ₁ := .bf16) (φ₂ := .bf16) dot_S256x1792_S1792x512_S256x512_1_0_0_1_n_n none A2 (shapeCast S1792x512 B2 shapeCasts_S1x1792x512_S1792x512 : FVec Ideal S1792x512 .bf16) (constant (F := Ideal) S256x512 .f32 0x00000000#32)))
        (matmul (F := Ideal) (φ₁ := .bf16) (φ₂ := .bf16) dot_S256x1792_S1792x512_S256x512_1_0_0_1_n_n none A3 (shapeCast S1792x512 B3 shapeCasts_S1x1792x512_S1792x512 : FVec Ideal S1792x512 .bf16) (constant (F := Ideal) S256x512 .f32 0x00000000#32)))
      (broadcastTo S256x512 s broadcasts_S256x1_S256x512)) (broadcastTo S256x512 ws broadcasts_S1x512_S256x512)) (broadcastTo S256x512 b broadcasts_S1x512_S256x512)) bitsLt_bf16_f32) shapeCasts_S256x512_S1x256x512
    = yTile A0 A1 A2 A3 B0 B1 B2 B3 s ws b := by
  funext j
  idx_vars j
  pointwise [yTile, dotV]

/-- A block of the output, from the block's codes and scales. -/
def yB (C : Vec Ideal S256x7168 .i8) (S : FVec Ideal S256x1 .f32) (W : Vec Ideal S7168x2560 .i8) (w b : Vec Ideal S1x2560 .f32) : Vec Ideal S1x256x2560 .bf16 := fun y =>
  (∑ k : Fin 7168, wide (C (ix2 (y 1 : Fin 256) k : S256x7168.Idx)) * wide (W (ix2 k (y 2 : Fin 2560) : S7168x2560.Idx))) * S (ix2 (y 1 : Fin 256) (0 : Fin 1) : S256x1.Idx)
    * w (ix2 (0 : Fin 1) (y 2 : Fin 2560) : S1x2560.Idx) + b (ix2 (0 : Fin 1) (y 2 : Fin 2560) : S1x2560.Idx)

theorem dot_piece (C : Vec Ideal S256x7168 .i8) (W : Vec Ideal S7168x2560 .i8) (i : Fin 4) (n : ℕ) (r : Fin 256) (m : Fin 512) (q : Fin 2560) (hq : q.val = n + m.val) :
    dotV (lhsPiece C (1792 * i.val)) (wPiece W (1792 * i.val) n) r m
      = ∑ t : Fin 1792, wide (C (ix2 r (⟨i.val * 1792 + t.val, by have := i.isLt; have := t.isLt; omega⟩ : Fin 7168) : S256x7168.Idx))
          * wide (W (ix2 (⟨i.val * 1792 + t.val, by have := i.isLt; have := t.isLt; omega⟩ : Fin 7168) q : S7168x2560.Idx)) := by
  refine Finset.sum_congr rfl fun t _ => ?_
  have hi := i.isLt
  have ht := t.isLt
  have hq' := q.isLt
  have e1 : (⟨(1792 * i.val + t.val) % 7168, Nat.mod_lt _ (by decide)⟩ : Fin 7168) = ⟨i.val * 1792 + t.val, by omega⟩ := Fin.ext (by show (1792 * i.val + t.val) % 7168 = i.val * 1792 + t.val; omega)
  have e2 : (⟨(n + m.val) % 2560, Nat.mod_lt _ (by decide)⟩ : Fin 2560) = q := Fin.ext (by show (n + m.val) % 2560 = q.val; omega)
  show wide (C (ix2 r (⟨(1792 * i.val + t.val) % 7168, _⟩ : Fin 7168) : S256x7168.Idx)) * wide (W (ix2 (⟨(1792 * i.val + t.val) % 7168, _⟩ : Fin 7168) (⟨(n + m.val) % 2560, _⟩ : Fin 2560) : S7168x2560.Idx)) = _
  rw [e1, e2]

/-- A tile of the output stored at its place is a block of the output's block. -/
theorem yTile_emb (C : Vec Ideal S256x7168 .i8) (S : FVec Ideal S256x1 .f32) (W : Vec Ideal S7168x2560 .i8) (w b : Vec Ideal S1x2560 .f32) (n : ℕ)
    (inb : ∀ a, (![0, 0, n] : Fin S1x256x2560.rank → ℕ) a + S1x256x512.size a ≤ S1x256x2560.size a) (x : S1x256x512.Idx) :
    yTile (lhsPiece C 0) (lhsPiece C 1792) (lhsPiece C 3584) (lhsPiece C 5376) (wPiece W 0 n) (wPiece W 1792 n) (wPiece W 3584 n) (wPiece W 5376 n) S (rowLd w n) (rowLd b n) x
      = yB C S W w b ((Rect.unit (s := S1x256x2560) ![0, 0, n] S1x256x512.size inb).emb x) := by
  have hv : ∀ a, (((Rect.unit (s := S1x256x2560) ![0, 0, n] S1x256x512.size inb).emb x) a).val = (![0, 0, n] : Fin S1x256x2560.rank → ℕ) a + (x a).val := fun a => Rect.idx_unit_val ..
  generalize (Rect.unit (s := S1x256x2560) ![0, 0, n] S1x256x512.size inb).emb x = y at hv
  have h1 : (y 1 : Fin 256) = x 1 := Fin.ext ((hv 1).trans (Nat.zero_add _))
  have h2 : (y 2).val = n + (x 2).val := hv 2
  have hy2 : (y 2).val < 2560 := (y 2).isLt
  have e2 : (⟨(n + (x 2).val) % 2560, Nat.mod_lt _ (by decide)⟩ : Fin 2560) = y 2 := Fin.ext (by show (n + (x 2).val) % 2560 = (y 2).val; omega)
  unfold yB
  rw [h1, Fin.sum_univ_tiles 4 1792 rfl]
  rw [Fin.sum_univ_four, ← dot_piece C W 0 n (x 1) (x 2) (y 2) h2, ← dot_piece C W 1 n (x 1) (x 2) (y 2) h2, ← dot_piece C W 2 n (x 1) (x 2) (y 2) h2, ← dot_piece C W 3 n (x 1) (x 2) (y 2) h2]
  rw [← e2]
  rfl

end Cert.KernelIdeal.Body
end
-- ==== Proof.Points.lean ====
/- The grid points of the region: which branch each takes, where the outputs are idle, and the memrefs passed to the body. -/
module

public import proofs.«01_k».proof.Proof.Gen.KernelIdeal.Frame
public import proofs.«01_k».proof.Proof.Gen.KernelIdeal.Skeleton
public import Idealize.ShloMosaic.Lib.WordCmp

@[expose] public section

-- the rectangles have long axes: look once per coordinate of those
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, k0_cond1, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (`Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A `Cfg.idle` calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B `Cfg.idle` calls output 5 live: the case stores into it. -/
theorem liveAt0_5_B : ∀ t : Fin cfg0.N, ¬cond0_0 (grid0.coords t) → cond0_1 (grid0.coords t) → cfg0.idle 5 (grid0.coords t) = false := by decide +kernel
/-- At the points of case A `Cfg.idle` calls output 6 live: the case stores into it. -/
theorem liveAt0_6_A : ∀ t : Fin cfg0.N, cond0_0 (grid0.coords t) → ¬cond0_1 (grid0.coords t) → cfg0.idle 6 (grid0.coords t) = false := by decide +kernel
/-- At the points of case B `Cfg.idle` calls output 6 live: the case stores into it. -/
theorem liveAt0_6_B : ∀ t : Fin cfg0.N, ¬cond0_0 (grid0.coords t) → cond0_1 (grid0.coords t) → cfg0.idle 6 (grid0.coords t) = false := by decide +kernel
/-- At the points of case A `Cfg.idle` calls output 7 live: the case stores into it. -/
theorem liveAt0_7_A : ∀ t : Fin cfg0.N, cond0_0 (grid0.coords t) → ¬cond0_1 (grid0.coords t) → cfg0.idle 7 (grid0.coords t) = false := by decide +kernel
/-- At the points of case B `Cfg.idle` calls output 7 live: the case stores into it. -/
theorem liveAt0_7_B : ∀ t : Fin cfg0.N, ¬cond0_0 (grid0.coords t) → cond0_1 (grid0.coords t) → cfg0.idle 7 (grid0.coords t) = false := by decide +kernel

/-! ## The staging memrefs and the scratch -/

/-- One staging buffer of output window 5, through which its contents are stated (`View.read_writes_of_cover`: the
    choice does not matter). -/
abbrev VO0_5 : View sig .tc .vmem S1x256x2560 .bf16 := (Memref.whole cc0_stg5_0 : Memref sig .tc .vmem S1x256x2560 .bf16).view
/-- One staging buffer of output window 6, through which its contents are stated (`View.read_writes_of_cover`: the
    choice does not matter). -/
abbrev VO0_6 : View sig .tc .vmem S1x256x7168 .i8 := (Memref.whole cc0_stg6_0 : Memref sig .tc .vmem S1x256x7168 .i8).view
/-- One staging buffer of output window 7, through which its contents are stated (`View.read_writes_of_cover`: the
    choice does not matter). -/
abbrev VO0_7 : View sig .tc .vmem S1x256x1 .f32 := (Memref.whole cc0_stg7_0 : Memref sig .tc .vmem S1x256x1 .f32).view
/-- Each window's current staging memref at point `t`, spelled as the pipeline passes it (`bodyAt0`), and its wholeness. -/
abbrev ms0_0 (t : Fin cfg0.N) : Memref sig .tc .vmem S1x256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x2560 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2560 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2560 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x2560 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x7168 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x7168 .f32 := Memref.whole cc0_scratch0
abbrev scM0_1 : Memref sig .tc .vmem S256x256 .f32 := Memref.whole cc0_scratch1
abbrev scM0_2 : Memref sig .tc .vmem S256x7168 .i8 := Memref.whole cc0_scratch2
abbrev scM0_3 : Memref sig .tc .vmem S256x1 .f32 := Memref.whole cc0_scratch3
abbrev scM0_4 : Memref sig .tc .vmem S256x7168 .bf16 := Memref.whole cc0_scratch4
abbrev scM0_5 : Memref sig .tc .vmem S4x1792x512 .bf16 := Memref.whole cc0_scratch5
/-- The scratch `arg11` the kernel carries between points, as a view: what it holds is stated through it. -/
abbrev VS0_2 : View sig .tc .vmem S256x7168 .i8 := scM0_2.view
/-- The scratch `arg12` the kernel carries between points, as a view: what it holds is stated through it. -/
abbrev VS0_3 : View sig .tc .vmem S256x1 .f32 := scM0_3.view
/-- The scratch `arg14` the kernel carries between points, as a view: what it holds is stated through it. -/
abbrev VS0_5 : View sig .tc .vmem S4x1792x512 .bf16 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Body

end
-- ==== Proof.RunA.lean ====
/- The kernel body run at the first grid point (case A): what it reads and what it leaves in every buffer. -/
module

public import proofs.«01_k».proof.Proof.Points

@[expose] public section

-- the rectangles have long axes: look once per coordinate of those
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 2060000 in
/-- What the body's stores leave in each output's staging memref, as pieces (last first) IN CASE A (`scf.if` 0 taken, `scf.if` 1 not taken: points 0), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def runFirst (c : Dev nD) (i : grid0.Coords) (arg1 : Memref sig .tc .vmem S1x256x7168 .bf16) (harg1 : arg1.IsWhole) (arg2 : Memref sig .tc .vmem S256x256 .bf16) (harg2 : arg2.IsWhole) (arg3 : Memref sig .tc .vmem S7168x2560 .i8) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .bf16) (harg6 : arg6.IsWhole) (arg7 : Memref sig .tc .vmem S1x256x7168 .i8) (harg7 : arg7.IsWhole) (arg8 : Memref sig .tc .vmem S1x256x1 .f32) (harg8 : arg8.IsWhole) (arg9 : Memref sig .tc .vmem S256x7168 .f32) (harg9 : arg9.IsWhole) (arg10 : Memref sig .tc .vmem S256x256 .f32) (harg10 : arg10.IsWhole) (arg11 : Memref sig .tc .vmem S256x7168 .i8) (harg11 : arg11.IsWhole) (arg12 : Memref sig .tc .vmem S256x1 .f32) (harg12 : arg12.IsWhole) (arg13 : Memref sig .tc .vmem S256x7168 .bf16) (harg13 : arg13.IsWhole) (arg14 : Memref sig .tc .vmem S4x1792x512 .bf16) (harg14 : arg14.IsWhole) (hc0 : cond0_0 i) (hc1 : ¬cond0_1 i)
    (x0 : Vec F S1x256x7168 .bf16) (x1 : Vec F S256x256 .bf16) (x2 : Vec F S7168x2560 .i8) (x3 : Vec F S1x2560 .f32) (x4 : Vec F S1x2560 .f32) :
    Σ' (L5 : List (View.Piece (Elt F) S1x256x2560 .bf16)), Σ' (L6 : List (View.Piece (Elt F) S1x256x7168 .i8)), Σ' (L7 : List (View.Piece (Elt F) S1x256x1 .f32)), Σ' (LS2 : List (View.Piece (Elt F) S256x7168 .i8)), Σ' (LS3 : List (View.Piece (Elt F) S256x1 .f32)), Σ' (LS5 : List (View.Piece (Elt F) S4x1792x512 .bf16)), Σ' (LT0 : List (View.Piece (Elt F) S256x7168 .f32)), Σ' (LT1 : List (View.Piece (Elt F) S256x256 .f32)), { LT4 : List (View.Piece (Elt F) S256x7168 .bf16) //
      ∀ (xi5 : Vec F S1x256x2560 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ d, owns (c : Thread nD τ) arg13 fullShare d) ∗ (∃ f, arg14.view.loc (c : Thread nD τ) ↦[arg14.view.set]{fullShare} arg14.view.writes (Elt F) f LS5)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, ?_, ?_, ?_, ?_, [], fun xi5 E K => ?run⟩
  case run =>
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    isplitl [HS4]
    · iexists _, _; isplitr; swap; · iexact HS4
      ipureintro; rfl
    iexists _; iexact HS5

end Cert.KernelIdeal.Body

end
-- ==== Proof.ValueA.lean ====
/- What the body leaves at the first point. -/
module

public import proofs.«01_k».proof.Proof.Product
public import proofs.«01_k».proof.Proof.RunA

@[expose] public section

set_option maxRecDepth 16384

noncomputable section

namespace Cert.KernelIdeal.Body

open Cert.KernelIdeal.Gen
open Idealize.ShloMosaic Idealize.ShloMosaic.TcCoe Idealize.ShloMosaic.Tactic Idealize.SL.Sem

variable (c : Dev nD) (i : grid0.Coords) (arg1 : Memref sig .tc .vmem S1x256x7168 .bf16) (harg1 : arg1.IsWhole) (arg2 : Memref sig .tc .vmem S256x256 .bf16) (harg2 : arg2.IsWhole) (arg3 : Memref sig .tc .vmem S7168x2560 .i8) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .bf16) (harg6 : arg6.IsWhole) (arg7 : Memref sig .tc .vmem S1x256x7168 .i8) (harg7 : arg7.IsWhole) (arg8 : Memref sig .tc .vmem S1x256x1 .f32) (harg8 : arg8.IsWhole) (arg9 : Memref sig .tc .vmem S256x7168 .f32) (harg9 : arg9.IsWhole) (arg10 : Memref sig .tc .vmem S256x256 .f32) (harg10 : arg10.IsWhole) (arg11 : Memref sig .tc .vmem S256x7168 .i8) (harg11 : arg11.IsWhole) (arg12 : Memref sig .tc .vmem S256x1 .f32) (harg12 : arg12.IsWhole) (arg13 : Memref sig .tc .vmem S256x7168 .bf16) (harg13 : arg13.IsWhole) (arg14 : Memref sig .tc .vmem S4x1792x512 .bf16) (harg14 : arg14.IsWhole) (hc0 : cond0_0 i) (hc1 : ¬cond0_1 i)
    (x0 : Vec Ideal S1x256x7168 .bf16) (x1 : Vec Ideal S256x256 .bf16) (x2 : Vec Ideal S7168x2560 .i8) (x3 : Vec Ideal S1x2560 .f32) (x4 : Vec Ideal S1x2560 .f32)

set_option maxHeartbeats 1600000 in
/-- The rotated rows are stored chunk by chunk. -/
theorem first_xr : View.PiecesOf (Val := Elt Ideal) (rotV x0 x1) (runFirst.sl.HS0_28 (F := Ideal) c arg1 harg1 arg2 harg2 x0 x1) := by
  sl_unfold_run_names
  simp (disch := decide) only [View.PiecesOf, View.readAt_eq_ld, Memref.IsWhole.read_unread, ld_chunk, View.ld_unit_lit', slice_stack0, slice_stack1, slice_stack2, slice_stack3, shapeCast_self,
    k0_pay4, k0_pay5, k0_pay6, k0_pay7, k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40, k0_pay41, k0_pay42, k0_pay43,
    k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90, k0_pay91, k0_pay92, k0_pay93, k0_pay94, k0_pay95,
    k0_pay96, k0_pay97, k0_pay98, k0_pay99, k0_pay100, k0_pay101, k0_pay102, k0_pay103, k0_pay104]
  repeat' apply And.intro
  all_goals first | trivial | (intro x; exact rotTile_emb x0 x1 _ (by decide) _ x)

/-- The chunks cover the scratch. -/
theorem first_xr_cover : ∀ y : S256x7168.Idx, ∃ p ∈ runFirst.sl.HS0_28 (F := Ideal) c arg1 harg1 arg2 harg2 x0 x1, y ∈ p.1.set :=
  View.cover_of_tiledL _ ![256, 256] (by sl_kernel_rfl)

theorem first_xr_read (r : Rect S256x7168) : arg9.view.readCov (runFirst.sl.HS0_28 (F := Ideal) c arg1 harg1 arg2 harg2 x0 x1) r.toLoadRect = fun j => rotV x0 x1 (r.emb j) :=
  readCov_pieces _ _ _ (first_xr c arg1 harg1 arg2 harg2 x0 x1) (first_xr_cover c arg1 harg1 arg2 harg2 x0 x1) r

set_option maxHeartbeats 1600000 in
/-- The last running maximum. -/
theorem first_amax : runFirst.sl.v375 (F := Ideal) c arg1 harg1 arg2 harg2 arg10 x0 x1 = runMax x0 x1 27 := by
  simp (disch := decide) only [View.readCov_cons_unit_lit', View.readCov_unit_lit', View.readAt_eq_ld, Memref.IsWhole.read_unread, ld_chunk, View.ld_unit_lit', slice_stack0, slice_stack1, slice_stack2, slice_stack3, shapeCast_self,
    runFirst.sl.HS1_1, runFirst.sl.HS1_2, runFirst.sl.HS1_3, runFirst.sl.HS1_4, runFirst.sl.HS1_5, runFirst.sl.HS1_6, runFirst.sl.HS1_7,
    runFirst.sl.HS1_8, runFirst.sl.HS1_9, runFirst.sl.HS1_10, runFirst.sl.HS1_11, runFirst.sl.HS1_12, runFirst.sl.HS1_13, runFirst.sl.HS1_14,
    runFirst.sl.HS1_15, runFirst.sl.HS1_16, runFirst.sl.HS1_17, runFirst.sl.HS1_18, runFirst.sl.HS1_19, runFirst.sl.HS1_20,
    runFirst.sl.HS1_21, runFirst.sl.HS1_22, runFirst.sl.HS1_23, runFirst.sl.HS1_24, runFirst.sl.HS1_25, runFirst.sl.HS1_26,
    runFirst.sl.HS1_27, runFirst.sl.HS1_28, runFirst.sl.v31, runFirst.sl.v41, runFirst.sl.v51, runFirst.sl.v74, runFirst.sl.v84,
    runFirst.sl.v94, runFirst.sl.v104, runFirst.sl.v127, runFirst.sl.v137, runFirst.sl.v147, runFirst.sl.v157, runFirst.sl.v180,
    runFirst.sl.v190, runFirst.sl.v200, runFirst.sl.v210, runFirst.sl.v233, runFirst.sl.v243, runFirst.sl.v253, runFirst.sl.v263,
    runFirst.sl.v286, runFirst.sl.v296, runFirst.sl.v306, runFirst.sl.v316, runFirst.sl.v339, runFirst.sl.v349, runFirst.sl.v359,
    runFirst.sl.v369, runFirst.sl.v375, runFirst.sl.r, runFirst.sl.r_1, runFirst.sl.r_2, runFirst.sl.r_3, runFirst.sl.r_4, runFirst.sl.r_5,
    runFirst.sl.r_6, runFirst.sl.r_7, runFirst.sl.r_8, runFirst.sl.r_9, runFirst.sl.r_10, runFirst.sl.r_11, runFirst.sl.r_12,
    runFirst.sl.r_13, runFirst.sl.r_14, runFirst.sl.r_15, runFirst.sl.r_16, runFirst.sl.r_17, runFirst.sl.r_18, runFirst.sl.r_19,
    runFirst.sl.r_20, runFirst.sl.r_21, runFirst.sl.r_22, runFirst.sl.r_23, runFirst.sl.r_24, runFirst.sl.r_25, runFirst.sl.r_26,
    runFirst.sl.r_27, runFirst.sl.r_28, runFirst.sl.r_29, runFirst.sl.r_30, runFirst.sl.r_31, runFirst.sl.r_32, runFirst.sl.r_33,
    k0_pay4, k0_pay5, k0_pay6, k0_pay7, k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40, k0_pay41, k0_pay42, k0_pay43,
    k0_pay44, k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67, k0_pay68, k0_pay69,
    k0_pay70, k0_pay71, k0_pay72, k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90, k0_pay91, k0_pay92, k0_pay93, k0_pay94, k0_pay95,
    k0_pay96, k0_pay97, k0_pay98, k0_pay99, k0_pay100, k0_pay101, k0_pay102, k0_pay103, k0_pay104]
  rfl

/-- The scales. -/
theorem first_scale : runFirst.sl.v390 (F := Ideal) c arg1 harg1 arg2 harg2 arg10 arg12 x0 x1 = scaleV x0 x1 := by
  simp (disch := decide) only [runFirst.sl.v390, runFirst.sl.HS3_1, runFirst.sl.r_19, View.readCov_unit_lit', k0_pay106, shapeCast_self]
  rw [first_amax, scale_eq]

theorem first_L7 : View.PiecesOf (Val := Elt Ideal) (scaleB x0 x1) (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.1 := by
  simp only [runFirst, View.PiecesOf, runFirst.sl.r_19, k0_pay107]
  rw [first_amax, scale_eq, cast_scale]
  exact ⟨fun x => whole_emb (scaleB x0 x1) _ (by decide) x, trivial⟩

theorem first_LS3 : View.PiecesOf (Val := Elt Ideal) (scaleV x0 x1) (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.1 := by
  simp only [runFirst, runFirst.sl.HS3_1, View.PiecesOf, runFirst.sl.r_19, k0_pay106, shapeCast_self]
  rw [first_amax, scale_eq]
  exact ⟨fun x => whole_emb (scaleV x0 x1) _ (by decide) x, trivial⟩

set_option maxHeartbeats 1600000 in
theorem first_LS2 : View.PiecesOf (Val := Elt Ideal) (codeV x0 x1) (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.1 := by
  simp only [runFirst, View.PiecesOf, shapeCast_self, first_scale, first_xr_read, quantise_eq,
    runFirst.sl.v391, runFirst.sl.v407, runFirst.sl.v423, runFirst.sl.v439, runFirst.sl.v455, runFirst.sl.v471, runFirst.sl.v487,
    runFirst.sl.v503, runFirst.sl.v519, runFirst.sl.v535, runFirst.sl.v551, runFirst.sl.v567, runFirst.sl.v583, runFirst.sl.v599,
    runFirst.sl.v615, runFirst.sl.v631, runFirst.sl.v647, runFirst.sl.v663, runFirst.sl.v679, runFirst.sl.v695, runFirst.sl.v711,
    runFirst.sl.v727, runFirst.sl.v743, runFirst.sl.v759, runFirst.sl.v775, runFirst.sl.v791, runFirst.sl.v807, runFirst.sl.v823,
    runFirst.sl.r_20, runFirst.sl.r_21, runFirst.sl.r_22, runFirst.sl.r_23, runFirst.sl.r_24, runFirst.sl.r_25, runFirst.sl.r_26,
    runFirst.sl.r_27, runFirst.sl.r_28, runFirst.sl.r_29, runFirst.sl.r_30, runFirst.sl.r_31, runFirst.sl.r_32, runFirst.sl.r_33,
    runFirst.sl.cst_420, runFirst.sl.cst_421,
    k0_pay105, k0_pay106, k0_pay107, k0_pay108, k0_pay109, k0_pay110, k0_pay111, k0_pay112, k0_pay113, k0_pay114, k0_pay115, k0_pay116,
    k0_pay117, k0_pay118, k0_pay119, k0_pay120, k0_pay121, k0_pay122, k0_pay123, k0_pay124, k0_pay125, k0_pay126, k0_pay127, k0_pay128,
    k0_pay129, k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162, k0_pay163, k0_pay164,
    k0_pay165, k0_pay166, k0_pay167, k0_pay168, k0_pay169, k0_pay170, k0_pay171, k0_pay172, k0_pay173, k0_pay174, k0_pay175, k0_pay176,
    k0_pay177, k0_pay178, k0_pay179, k0_pay180, k0_pay181, k0_pay182, k0_pay183, k0_pay184, k0_pay185, k0_pay186, k0_pay187, k0_pay188,
    k0_pay189, k0_pay190, k0_pay191, k0_pay192, k0_pay193, k0_pay194, k0_pay195, k0_pay196, k0_pay197, k0_pay198]
  repeat' apply And.intro
  all_goals first | trivial | (intro x; exact codeTile_emb x0 x1 _ _ x)

set_option maxHeartbeats 1600000 in
theorem first_L6 : View.PiecesOf (Val := Elt Ideal) (codeB x0 x1) (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.1 := by
  simp only [runFirst, View.PiecesOf, shapeCast_self, first_scale, first_xr_read, quantise_eq,
    runFirst.sl.v391, runFirst.sl.v407, runFirst.sl.v423, runFirst.sl.v439, runFirst.sl.v455, runFirst.sl.v471, runFirst.sl.v487,
    runFirst.sl.v503, runFirst.sl.v519, runFirst.sl.v535, runFirst.sl.v551, runFirst.sl.v567, runFirst.sl.v583, runFirst.sl.v599,
    runFirst.sl.v615, runFirst.sl.v631, runFirst.sl.v647, runFirst.sl.v663, runFirst.sl.v679, runFirst.sl.v695, runFirst.sl.v711,
    runFirst.sl.v727, runFirst.sl.v743, runFirst.sl.v759, runFirst.sl.v775, runFirst.sl.v791, runFirst.sl.v807, runFirst.sl.v823,
    runFirst.sl.r_20, runFirst.sl.r_21, runFirst.sl.r_22, runFirst.sl.r_23, runFirst.sl.r_24, runFirst.sl.r_25, runFirst.sl.r_26,
    runFirst.sl.r_27, runFirst.sl.r_28, runFirst.sl.r_29, runFirst.sl.r_30, runFirst.sl.r_31, runFirst.sl.r_32, runFirst.sl.r_33,
    runFirst.sl.cst_420, runFirst.sl.cst_421,
    k0_pay105, k0_pay106, k0_pay107, k0_pay108, k0_pay109, k0_pay110, k0_pay111, k0_pay112, k0_pay113, k0_pay114, k0_pay115, k0_pay116,
    k0_pay117, k0_pay118, k0_pay119, k0_pay120, k0_pay121, k0_pay122, k0_pay123, k0_pay124, k0_pay125, k0_pay126, k0_pay127, k0_pay128,
    k0_pay129, k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162, k0_pay163, k0_pay164,
    k0_pay165, k0_pay166, k0_pay167, k0_pay168, k0_pay169, k0_pay170, k0_pay171, k0_pay172, k0_pay173, k0_pay174, k0_pay175, k0_pay176,
    k0_pay177, k0_pay178, k0_pay179, k0_pay180, k0_pay181, k0_pay182, k0_pay183, k0_pay184, k0_pay185, k0_pay186, k0_pay187, k0_pay188,
    k0_pay189, k0_pay190, k0_pay191, k0_pay192, k0_pay193, k0_pay194, k0_pay195, k0_pay196, k0_pay197, k0_pay198]
  repeat' apply And.intro
  all_goals first | trivial | (intro x; exact codeB_emb x0 x1 _ _ _ x)

theorem first_LS5 : (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.2.1 = ringPieces x2 := by
  simp (disch := decide) only [runFirst, shapeCast_self, ringPieces, View.readAt_eq_ld, Memref.IsWhole.read_unread, ld_w, wide_w,
    runFirst.sl.v391, runFirst.sl.v407, runFirst.sl.v423, runFirst.sl.v439, runFirst.sl.v455, runFirst.sl.v471, runFirst.sl.v487,
    runFirst.sl.v503, runFirst.sl.v519, runFirst.sl.v535, runFirst.sl.v551, runFirst.sl.v567, runFirst.sl.v583, runFirst.sl.v599,
    runFirst.sl.v615, runFirst.sl.v631, runFirst.sl.v647, runFirst.sl.v663, runFirst.sl.v679, runFirst.sl.v695, runFirst.sl.v711,
    runFirst.sl.v727, runFirst.sl.v743, runFirst.sl.v759, runFirst.sl.v775, runFirst.sl.v791, runFirst.sl.v807, runFirst.sl.v823,
    runFirst.sl.r_20, runFirst.sl.r_21, runFirst.sl.r_22, runFirst.sl.r_23, runFirst.sl.r_24, runFirst.sl.r_25, runFirst.sl.r_26,
    runFirst.sl.r_27, runFirst.sl.r_28, runFirst.sl.r_29, runFirst.sl.r_30, runFirst.sl.r_31, runFirst.sl.r_32, runFirst.sl.r_33, k0_pay1,
    k0_pay2,
    k0_pay105, k0_pay106, k0_pay107, k0_pay108, k0_pay109, k0_pay110, k0_pay111, k0_pay112, k0_pay113, k0_pay114, k0_pay115, k0_pay116,
    k0_pay117, k0_pay118, k0_pay119, k0_pay120, k0_pay121, k0_pay122, k0_pay123, k0_pay124, k0_pay125, k0_pay126, k0_pay127, k0_pay128,
    k0_pay129, k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162, k0_pay163, k0_pay164,
    k0_pay165, k0_pay166, k0_pay167, k0_pay168, k0_pay169, k0_pay170, k0_pay171, k0_pay172, k0_pay173, k0_pay174, k0_pay175, k0_pay176,
    k0_pay177, k0_pay178, k0_pay179, k0_pay180, k0_pay181, k0_pay182, k0_pay183, k0_pay184, k0_pay185, k0_pay186, k0_pay187, k0_pay188,
    k0_pay189, k0_pay190, k0_pay191, k0_pay192, k0_pay193, k0_pay194, k0_pay195, k0_pay196, k0_pay197, k0_pay198]

theorem first_read_L6 {κ : Kind} {sp : Space} (v : View sig κ sp S1x256x7168 .i8) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.1) = codeB x0 x1 :=
  read_pieces v f _ _ (first_L6 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4) fun y => View.cover_of_tiledL (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.1 S1x256x256.size (by sl_kernel_rfl) y

theorem first_read_L7 {κ : Kind} {sp : Space} (v : View sig κ sp S1x256x1 .f32) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.1) = scaleB x0 x1 :=
  read_pieces v f _ _ (first_L7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4) fun y => View.cover_of_tiledL (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.1 S1x256x1.size (by sl_kernel_rfl) y

theorem first_read_LS2 {κ : Kind} {sp : Space} (v : View sig κ sp S256x7168 .i8) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.1) = codeV x0 x1 :=
  read_pieces v f _ _ (first_LS2 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4) fun y => View.cover_of_tiledL (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.1 S256x256.size (by sl_kernel_rfl) y

theorem first_read_LS3 {κ : Kind} {sp : Space} (v : View sig κ sp S256x1 .f32) (f : v.ty.Contents (Elt Ideal)) :
    v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.1) = scaleV x0 x1 :=
  read_pieces v f _ _ (first_LS3 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4) fun y => View.cover_of_tiledL (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.1 S256x1.size (by sl_kernel_rfl) y

theorem first_ring {κ : Kind} {sp : Space} (v : View sig κ sp S4x1792x512 .bf16) (f : v.ty.Contents (Elt Ideal)) :
    RingOK x2 (v.read (Elt Ideal) (v.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.2.1)) := by
  rw [first_LS5, ← List.append_nil (ringPieces x2)]
  exact ring_of_writes v x2 f []

end Cert.KernelIdeal.Body
end
-- ==== Proof.RunB.lean ====
/- The kernel body run at every later grid point (case B): what it reads and what it leaves in every buffer. -/
module

public import proofs.«01_k».proof.Proof.Points

@[expose] public section

-- the rectangles have long axes: look once per coordinate of those
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 2732000 in
/-- What the body's stores leave in each output's staging memref, as pieces (last first) IN CASE B (`scf.if` 0 not taken, `scf.if` 1 taken: points 1, 2, … 32: 32 of 33), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def runLater (c : Dev nD) (i : grid0.Coords) (arg1 : Memref sig .tc .vmem S1x256x7168 .bf16) (harg1 : arg1.IsWhole) (arg2 : Memref sig .tc .vmem S256x256 .bf16) (harg2 : arg2.IsWhole) (arg3 : Memref sig .tc .vmem S7168x2560 .i8) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .bf16) (harg6 : arg6.IsWhole) (arg7 : Memref sig .tc .vmem S1x256x7168 .i8) (harg7 : arg7.IsWhole) (arg8 : Memref sig .tc .vmem S1x256x1 .f32) (harg8 : arg8.IsWhole) (arg9 : Memref sig .tc .vmem S256x7168 .f32) (harg9 : arg9.IsWhole) (arg10 : Memref sig .tc .vmem S256x256 .f32) (harg10 : arg10.IsWhole) (arg11 : Memref sig .tc .vmem S256x7168 .i8) (harg11 : arg11.IsWhole) (arg12 : Memref sig .tc .vmem S256x1 .f32) (harg12 : arg12.IsWhole) (arg13 : Memref sig .tc .vmem S256x7168 .bf16) (harg13 : arg13.IsWhole) (arg14 : Memref sig .tc .vmem S4x1792x512 .bf16) (harg14 : arg14.IsWhole) (hc0 : ¬cond0_0 i) (hc1 : cond0_1 i)
    (x0 : Vec F S1x256x7168 .bf16) (x1 : Vec F S256x256 .bf16) (x2 : Vec F S7168x2560 .i8) (x3 : Vec F S1x2560 .f32) (x4 : Vec F S1x2560 .f32) (xs2 : Vec F S256x7168 .i8) (xs3 : Vec F S256x1 .f32) (xs5 : Vec F S4x1792x512 .bf16) :
    Σ' (L5 : List (View.Piece (Elt F) S1x256x2560 .bf16)), Σ' (L6 : List (View.Piece (Elt F) S1x256x7168 .i8)), Σ' (L7 : List (View.Piece (Elt F) S1x256x1 .f32)), Σ' (LS2 : List (View.Piece (Elt F) S256x7168 .i8)), Σ' (LS3 : List (View.Piece (Elt F) S256x1 .f32)), Σ' (LS5 : List (View.Piece (Elt F) S4x1792x512 .bf16)), Σ' (LT0 : List (View.Piece (Elt F) S256x7168 .f32)), Σ' (LT1 : List (View.Piece (Elt F) S256x256 .f32)), { LT4 : List (View.Piece (Elt F) S256x7168 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs2 ∗ owns (c : Thread nD τ) arg12 fullShare xs3 ∗ (∃ d, owns (c : Thread nD τ) arg13 fullShare d) ∗ owns (c : Thread nD τ) arg14 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LT4) ∗ (∃ f, arg14.view.loc (c : Thread nD τ) ↦[arg14.view.set]{fullShare} arg14.view.writes (Elt F) f LS5)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, ?_, fun E K => ?run⟩
  case run =>
    simp only [cc0__body_eq_skeleton]; unfold cc0__body_skel
    simp only [k0_part60_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%fs2, %hfs2, HS2⟩, ⟨%fs3, %hfs3, HS3⟩, ⟨%ds4, %fs4, -, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg11.eq_unread hfs2; obtain rfl := harg12.eq_unread hfs3; obtain rfl := harg14.eq_unread hfs5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Body

end
-- ==== Proof.ValueB.lean ====
/- What the body leaves at a later point. -/
module

public import proofs.«01_k».proof.Proof.Product
public import proofs.«01_k».proof.Proof.RunB

@[expose] public section

set_option maxRecDepth 16384

noncomputable section

namespace Cert.KernelIdeal.Body

open Cert.KernelIdeal.Gen
open Idealize.ShloMosaic Idealize.ShloMosaic.TcCoe Idealize.ShloMosaic.Tactic Idealize.SL.Sem

variable (c : Dev nD) (i : grid0.Coords) (arg1 : Memref sig .tc .vmem S1x256x7168 .bf16) (harg1 : arg1.IsWhole) (arg2 : Memref sig .tc .vmem S256x256 .bf16) (harg2 : arg2.IsWhole) (arg3 : Memref sig .tc .vmem S7168x2560 .i8) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .bf16) (harg6 : arg6.IsWhole) (arg7 : Memref sig .tc .vmem S1x256x7168 .i8) (harg7 : arg7.IsWhole) (arg8 : Memref sig .tc .vmem S1x256x1 .f32) (harg8 : arg8.IsWhole) (arg9 : Memref sig .tc .vmem S256x7168 .f32) (harg9 : arg9.IsWhole) (arg10 : Memref sig .tc .vmem S256x256 .f32) (harg10 : arg10.IsWhole) (arg11 : Memref sig .tc .vmem S256x7168 .i8) (harg11 : arg11.IsWhole) (arg12 : Memref sig .tc .vmem S256x1 .f32) (harg12 : arg12.IsWhole) (arg13 : Memref sig .tc .vmem S256x7168 .bf16) (harg13 : arg13.IsWhole) (arg14 : Memref sig .tc .vmem S4x1792x512 .bf16) (harg14 : arg14.IsWhole) (hc0 : ¬cond0_0 i) (hc1 : cond0_1 i)
    (x0 : Vec Ideal S1x256x7168 .bf16) (x1 : Vec Ideal S256x256 .bf16) (x2 : Vec Ideal S7168x2560 .i8) (x3 : Vec Ideal S1x2560 .f32) (x4 : Vec Ideal S1x2560 .f32) (xs2 : Vec Ideal S256x7168 .i8) (xs3 : Vec Ideal S256x1 .f32) (xs5 : Vec Ideal S4x1792x512 .bf16)

set_option maxHeartbeats 1600000 in
/-- The rotated rows are stored chunk by chunk. -/
theorem later_xr : View.PiecesOf (Val := Elt Ideal) (rotV x0 x1) (runLater.sl.HS0_28 (F := Ideal) c arg1 harg1 arg2 harg2 x0 x1) := by
  sl_unfold_run_names
  simp (disch := decide) only [View.PiecesOf, View.readAt_eq_ld, Memref.IsWhole.read_unread, ld_chunk, View.ld_unit_lit', slice_stack0, slice_stack1, slice_stack2, slice_stack3, shapeCast_self,
    k0_pay3, k0_pay199, k0_pay200, k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218, k0_pay219, k0_pay220, k0_pay221,
    k0_pay222, k0_pay223, k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243, k0_pay244, k0_pay245,
    k0_pay246, k0_pay247, k0_pay248, k0_pay249, k0_pay250, k0_pay251, k0_pay252, k0_pay253, k0_pay254, k0_pay255, k0_pay256, k0_pay257,
    k0_pay258, k0_pay259, k0_pay260, k0_pay261, k0_pay262, k0_pay263, k0_pay264, k0_pay265, k0_pay266, k0_pay267, k0_pay268, k0_pay269,
    k0_pay270, k0_pay271, k0_pay272, k0_pay273, k0_pay274, k0_pay275, k0_pay276, k0_pay277, k0_pay278, k0_pay279, k0_pay280, k0_pay281,
    k0_pay282, k0_pay283, k0_pay284, k0_pay285, k0_pay286, k0_pay287, k0_pay288, k0_pay289, k0_pay290, k0_pay291, k0_pay292, k0_pay293,
    k0_pay294, k0_pay295, k0_pay296, k0_pay297, k0_pay298, k0_pay299, k0_pay300, k0_pay301, k0_pay302, k0_pay303, k0_pay304, k0_pay305,
    k0_pay306, k0_pay307, k0_pay308, k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326, k0_pay327, k0_pay328, k0_pay329,
    k0_pay330, k0_pay331, k0_pay332, k0_pay333, k0_pay334, k0_pay335, k0_pay336, k0_pay337, k0_pay338, k0_pay339, k0_pay340, k0_pay341,
    k0_pay342, k0_pay343, k0_pay344, k0_pay345, k0_pay346, k0_pay347, k0_pay348, k0_pay349, k0_pay350, k0_pay351, k0_pay352, k0_pay353,
    k0_pay354, k0_pay355, k0_pay356, k0_pay357, k0_pay358, k0_pay359, k0_pay360, k0_pay361, k0_pay362, k0_pay363, k0_pay364, k0_pay365,
    k0_pay366, k0_pay367, k0_pay368, k0_pay369, k0_pay370, k0_pay371, k0_pay372, k0_pay373, k0_pay374, k0_pay375, k0_pay376, k0_pay377,
    k0_pay378, k0_pay379, k0_pay380, k0_pay381, k0_pay382, k0_pay383, k0_pay384, k0_pay385, k0_pay386, k0_pay387, k0_pay388, k0_pay389,
    k0_pay390, k0_pay391, k0_pay392, k0_pay393, k0_pay394, k0_pay395, k0_pay396, k0_pay397, k0_pay398, k0_pay399, k0_pay400, k0_pay401,
    k0_pay402, k0_pay403, k0_pay404, k0_pay405, k0_pay406, k0_pay407, k0_pay408, k0_pay409, k0_pay410, k0_pay411, k0_pay412, k0_pay413,
    k0_pay414, k0_pay415, k0_pay416, k0_pay417, k0_pay418, k0_pay419, k0_pay420, k0_pay421, k0_pay422, k0_pay423, k0_pay424, k0_pay425,
    k0_pay426, k0_pay427, k0_pay428, k0_pay429, k0_pay430, k0_pay431]
  repeat' apply And.intro
  all_goals first | trivial | (intro x; exact rotTile_emb x0 x1 _ (by decide) _ x)

/-- The chunks cover the scratch. -/
theorem later_xr_cover : ∀ y : S256x7168.Idx, ∃ p ∈ runLater.sl.HS0_28 (F := Ideal) c arg1 harg1 arg2 harg2 x0 x1, y ∈ p.1.set :=
  View.cover_of_tiledL _ ![256, 256] (by sl_kernel_rfl)

theorem later_xr_read (r : Rect S256x7168) : arg9.view.readCov (runLater.sl.HS0_28 (F := Ideal) c arg1 harg1 arg2 harg2 x0 x1) r.toLoadRect = fun j => rotV x0 x1 (r.emb j) :=
  readCov_pieces _ _ _ (later_xr c arg1 harg1 arg2 harg2 x0 x1) (later_xr_cover c arg1 harg1 arg2 harg2 x0 x1) r

set_option maxHeartbeats 1600000 in
/-- The last running maximum. -/
theorem later_amax : runLater.sl.v468 (F := Ideal) c arg1 harg1 arg2 harg2 arg10 x0 x1 = runMax x0 x1 27 := by
  simp (disch := decide) only [View.readCov_cons_unit_lit', View.readCov_unit_lit', View.readAt_eq_ld, Memref.IsWhole.read_unread, ld_chunk, View.ld_unit_lit', slice_stack0, slice_stack1, slice_stack2, slice_stack3, shapeCast_self,
    runLater.sl.HS1_1, runLater.sl.HS1_2, runLater.sl.HS1_3, runLater.sl.HS1_4, runLater.sl.HS1_5, runLater.sl.HS1_6, runLater.sl.HS1_7,
    runLater.sl.HS1_8, runLater.sl.HS1_9, runLater.sl.HS1_10, runLater.sl.HS1_11, runLater.sl.HS1_12, runLater.sl.HS1_13, runLater.sl.HS1_14,
    runLater.sl.HS1_15, runLater.sl.HS1_16, runLater.sl.HS1_17, runLater.sl.HS1_18, runLater.sl.HS1_19, runLater.sl.HS1_20,
    runLater.sl.HS1_21, runLater.sl.HS1_22, runLater.sl.HS1_23, runLater.sl.HS1_24, runLater.sl.HS1_25, runLater.sl.HS1_26,
    runLater.sl.HS1_27, runLater.sl.HS1_28, runLater.sl.v42, runLater.sl.v52, runLater.sl.v62, runLater.sl.v94, runLater.sl.v104,
    runLater.sl.v114, runLater.sl.v124, runLater.sl.v157, runLater.sl.v167, runLater.sl.v177, runLater.sl.v187, runLater.sl.v220,
    runLater.sl.v230, runLater.sl.v240, runLater.sl.v250, runLater.sl.v297, runLater.sl.v307, runLater.sl.v317, runLater.sl.v327,
    runLater.sl.v359, runLater.sl.v369, runLater.sl.v379, runLater.sl.v389, runLater.sl.v422, runLater.sl.v432, runLater.sl.v442,
    runLater.sl.v452, runLater.sl.v468, runLater.sl.v534, runLater.sl.r, runLater.sl.r_1, runLater.sl.r_2, runLater.sl.r_3, runLater.sl.r_4,
    runLater.sl.r_5, runLater.sl.r_6, runLater.sl.r_7, runLater.sl.r_8, runLater.sl.r_9, runLater.sl.r_10, runLater.sl.r_11, runLater.sl.r_12,
    runLater.sl.r_13, runLater.sl.r_14, runLater.sl.r_15, runLater.sl.r_16, runLater.sl.r_17, runLater.sl.r_18, runLater.sl.r_19,
    runLater.sl.r_20, runLater.sl.r_21, runLater.sl.r_22, runLater.sl.r_23, runLater.sl.r_24, runLater.sl.r_25, runLater.sl.r_26,
    runLater.sl.r_27, runLater.sl.r_28, runLater.sl.r_29, runLater.sl.r_30, runLater.sl.r_31, runLater.sl.r_32, runLater.sl.r_33,
    runLater.sl.r_34, runLater.sl.r_35, runLater.sl.r_36, runLater.sl.r_37, runLater.sl.r_38, runLater.sl.r_39, runLater.sl.r_40,
    runLater.sl.r_41, runLater.sl.r_42, runLater.sl.r_43, runLater.sl.r_44, runLater.sl.r_45, runLater.sl.r_46, runLater.sl.r_47,
    runLater.sl.r_48, runLater.sl.r_49, runLater.sl.r_50, runLater.sl.r_51, runLater.sl.r_52,
    k0_pay3, k0_pay199, k0_pay200, k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218, k0_pay219, k0_pay220, k0_pay221,
    k0_pay222, k0_pay223, k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243, k0_pay244, k0_pay245,
    k0_pay246, k0_pay247, k0_pay248, k0_pay249, k0_pay250, k0_pay251, k0_pay252, k0_pay253, k0_pay254, k0_pay255, k0_pay256, k0_pay257,
    k0_pay258, k0_pay259, k0_pay260, k0_pay261, k0_pay262, k0_pay263, k0_pay264, k0_pay265, k0_pay266, k0_pay267, k0_pay268, k0_pay269,
    k0_pay270, k0_pay271, k0_pay272, k0_pay273, k0_pay274, k0_pay275, k0_pay276, k0_pay277, k0_pay278, k0_pay279, k0_pay280, k0_pay281,
    k0_pay282, k0_pay283, k0_pay284, k0_pay285, k0_pay286, k0_pay287, k0_pay288, k0_pay289, k0_pay290, k0_pay291, k0_pay292, k0_pay293,
    k0_pay294, k0_pay295, k0_pay296, k0_pay297, k0_pay298, k0_pay299, k0_pay300, k0_pay301, k0_pay302, k0_pay303, k0_pay304, k0_pay305,
    k0_pay306, k0_pay307, k0_pay308, k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326, k0_pay327, k0_pay328, k0_pay329,
    k0_pay330, k0_pay331, k0_pay332, k0_pay333, k0_pay334, k0_pay335, k0_pay336, k0_pay337, k0_pay338, k0_pay339, k0_pay340, k0_pay341,
    k0_pay342, k0_pay343, k0_pay344, k0_pay345, k0_pay346, k0_pay347, k0_pay348, k0_pay349, k0_pay350, k0_pay351, k0_pay352, k0_pay353,
    k0_pay354, k0_pay355, k0_pay356, k0_pay357, k0_pay358, k0_pay359, k0_pay360, k0_pay361, k0_pay362, k0_pay363, k0_pay364, k0_pay365,
    k0_pay366, k0_pay367, k0_pay368, k0_pay369, k0_pay370, k0_pay371, k0_pay372, k0_pay373, k0_pay374, k0_pay375, k0_pay376, k0_pay377,
    k0_pay378, k0_pay379, k0_pay380, k0_pay381, k0_pay382, k0_pay383, k0_pay384, k0_pay385, k0_pay386, k0_pay387, k0_pay388, k0_pay389,
    k0_pay390, k0_pay391, k0_pay392, k0_pay393, k0_pay394, k0_pay395, k0_pay396, k0_pay397, k0_pay398, k0_pay399, k0_pay400, k0_pay401,
    k0_pay402, k0_pay403, k0_pay404, k0_pay405, k0_pay406, k0_pay407, k0_pay408, k0_pay409, k0_pay410, k0_pay411, k0_pay412, k0_pay413,
    k0_pay414, k0_pay415, k0_pay416, k0_pay417, k0_pay418, k0_pay419, k0_pay420, k0_pay421, k0_pay422, k0_pay423, k0_pay424, k0_pay425,
    k0_pay426, k0_pay427, k0_pay428, k0_pay429, k0_pay430, k0_pay431]
  rfl

theorem pay311_eq : (k0_pay311 : Vec Ideal S256x256 .f32 → _) = k0_pay105 := rfl

/-- The scales. -/
theorem later_scale : runLater.sl.v507 (F := Ideal) c arg1 harg1 arg2 harg2 arg10 arg12 x0 x1 = scaleV x0 x1 := by
  simp (disch := decide) only [runLater.sl.v507, runLater.sl.HS3_1, View.readCov_unit_lit', shapeCast_self, k0_pay312, pay311_eq]
  rw [later_amax, scale_eq]

theorem later_L7 : View.PiecesOf (Val := Elt Ideal) (scaleB x0 x1) (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5).2.2.1 := by
  simp only [runLater, View.PiecesOf, k0_pay313, pay311_eq]
  rw [later_amax, scale_eq, cast_scale]
  exact ⟨fun x => whole_emb (scaleB x0 x1) _ (by decide) x, trivial⟩

theorem later_LS3 : View.PiecesOf (Val := Elt Ideal) (scaleV x0 x1) (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5).2.2.2.2.1 := by
  simp only [runLater, runLater.sl.HS3_1, View.PiecesOf, k0_pay312, pay311_eq, shapeCast_self]
  rw [later_amax, scale_eq]
  exact ⟨fun x => whole_emb (scaleV x0 x1) _ (by decide) x, trivial⟩

set_option maxHeartbeats 1600000 in
theorem later_LS2 : View.PiecesOf (Val := Elt Ideal) (codeV x0 x1) (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5).2.2.2.1 := by
  simp only [runLater, View.PiecesOf, shapeCast_self, later_scale, later_xr_read, quantise_eq,
    runLater.sl.v508, runLater.sl.v524, runLater.sl.v540, runLater.sl.v566, runLater.sl.v582, runLater.sl.v598, runLater.sl.v625,
    runLater.sl.v641, runLater.sl.v657, runLater.sl.v684, runLater.sl.v700, runLater.sl.v716, runLater.sl.v757, runLater.sl.v773,
    runLater.sl.v789, runLater.sl.v815, runLater.sl.v831, runLater.sl.v847, runLater.sl.v874, runLater.sl.v890, runLater.sl.v906,
    runLater.sl.v933, runLater.sl.v949, runLater.sl.v965, runLater.sl.v1006, runLater.sl.v1022, runLater.sl.v1038, runLater.sl.v1064,
    runLater.sl.r, runLater.sl.r_1, runLater.sl.r_2, runLater.sl.r_3, runLater.sl.r_4, runLater.sl.r_5, runLater.sl.r_6, runLater.sl.r_7,
    runLater.sl.r_8, runLater.sl.r_9, runLater.sl.r_10, runLater.sl.r_11, runLater.sl.r_12, runLater.sl.r_13, runLater.sl.r_14,
    runLater.sl.r_15, runLater.sl.r_16, runLater.sl.r_17, runLater.sl.r_18, runLater.sl.r_19, runLater.sl.r_20, runLater.sl.r_21,
    runLater.sl.r_22, runLater.sl.r_23, runLater.sl.r_24, runLater.sl.r_25, runLater.sl.r_26, runLater.sl.r_27, runLater.sl.r_28,
    runLater.sl.r_29, runLater.sl.r_30, runLater.sl.r_31, runLater.sl.r_32, runLater.sl.r_33, runLater.sl.r_34, runLater.sl.r_35,
    runLater.sl.r_36, runLater.sl.r_37, runLater.sl.r_38, runLater.sl.r_39, runLater.sl.r_40, runLater.sl.r_41, runLater.sl.r_42,
    runLater.sl.r_43, runLater.sl.r_44, runLater.sl.r_45, runLater.sl.r_46, runLater.sl.r_47, runLater.sl.r_48, runLater.sl.r_49,
    runLater.sl.r_50, runLater.sl.r_51, runLater.sl.r_52, runLater.sl.cst_593, runLater.sl.cst_594,
    k0_pay3, k0_pay199, k0_pay200, k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218, k0_pay219, k0_pay220, k0_pay221,
    k0_pay222, k0_pay223, k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243, k0_pay244, k0_pay245,
    k0_pay246, k0_pay247, k0_pay248, k0_pay249, k0_pay250, k0_pay251, k0_pay252, k0_pay253, k0_pay254, k0_pay255, k0_pay256, k0_pay257,
    k0_pay258, k0_pay259, k0_pay260, k0_pay261, k0_pay262, k0_pay263, k0_pay264, k0_pay265, k0_pay266, k0_pay267, k0_pay268, k0_pay269,
    k0_pay270, k0_pay271, k0_pay272, k0_pay273, k0_pay274, k0_pay275, k0_pay276, k0_pay277, k0_pay278, k0_pay279, k0_pay280, k0_pay281,
    k0_pay282, k0_pay283, k0_pay284, k0_pay285, k0_pay286, k0_pay287, k0_pay288, k0_pay289, k0_pay290, k0_pay291, k0_pay292, k0_pay293,
    k0_pay294, k0_pay295, k0_pay296, k0_pay297, k0_pay298, k0_pay299, k0_pay300, k0_pay301, k0_pay302, k0_pay303, k0_pay304, k0_pay305,
    k0_pay306, k0_pay307, k0_pay308, k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326, k0_pay327, k0_pay328, k0_pay329,
    k0_pay330, k0_pay331, k0_pay332, k0_pay333, k0_pay334, k0_pay335, k0_pay336, k0_pay337, k0_pay338, k0_pay339, k0_pay340, k0_pay341,
    k0_pay342, k0_pay343, k0_pay344, k0_pay345, k0_pay346, k0_pay347, k0_pay348, k0_pay349, k0_pay350, k0_pay351, k0_pay352, k0_pay353,
    k0_pay354, k0_pay355, k0_pay356, k0_pay357, k0_pay358, k0_pay359, k0_pay360, k0_pay361, k0_pay362, k0_pay363, k0_pay364, k0_pay365,
    k0_pay366, k0_pay367, k0_pay368, k0_pay369, k0_pay370, k0_pay371, k0_pay372, k0_pay373, k0_pay374, k0_pay375, k0_pay376, k0_pay377,
    k0_pay378, k0_pay379, k0_pay380, k0_pay381, k0_pay382, k0_pay383, k0_pay384, k0_pay385, k0_pay386, k0_pay387, k0_pay388, k0_pay389,
    k0_pay390, k0_pay391, k0_pay392, k0_pay393, k0_pay394, k0_pay395, k0_pay396, k0_pay397, k0_pay398, k0_pay399, k0_pay400, k0_pay401,
    k0_pay402, k0_pay403, k0_pay404, k0_pay405, k0_pay406, k0_pay407, k0_pay408, k0_pay409, k0_pay410, k0_pay411, k0_pay412, k0_pay413,
    k0_pay414, k0_pay415, k0_pay416, k0_pay417, k0_pay418, k0_pay419, k0_pay420, k0_pay421, k0_pay422, k0_pay423, k0_pay424, k0_pay425,
    k0_pay426, k0_pay427, k0_pay428, k0_pay429, k0_pay430, k0_pay431]
  repeat' apply And.intro
  all_goals first | trivial | (intro x; exact codeTile_emb x0 x1 _ _ x)

set_option maxHeartbeats 1600000 in
theorem later_L6 : View.PiecesOf (Val := Elt Ideal) (codeB x0 x1) (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5).2.1 := by
  simp only [runLater, View.PiecesOf, shapeCast_self, later_scale, later_xr_read, quantise_eq,
    runLater.sl.v508, runLater.sl.v524, runLater.sl.v540, runLater.sl.v566, runLater.sl.v582, runLater.sl.v598, runLater.sl.v625,
    runLater.sl.v641, runLater.sl.v657, runLater.sl.v684, runLater.sl.v700, runLater.sl.v716, runLater.sl.v757, runLater.sl.v773,
    runLater.sl.v789, runLater.sl.v815, runLater.sl.v831, runLater.sl.v847, runLater.sl.v874, runLater.sl.v890, runLater.sl.v906,
    runLater.sl.v933, runLater.sl.v949, runLater.sl.v965, runLater.sl.v1006, runLater.sl.v1022, runLater.sl.v1038, runLater.sl.v1064,
    runLater.sl.r, runLater.sl.r_1, runLater.sl.r_2, runLater.sl.r_3, runLater.sl.r_4, runLater.sl.r_5, runLater.sl.r_6, runLater.sl.r_7,
    runLater.sl.r_8, runLater.sl.r_9, runLater.sl.r_10, runLater.sl.r_11, runLater.sl.r_12, runLater.sl.r_13, runLater.sl.r_14,
    runLater.sl.r_15, runLater.sl.r_16, runLater.sl.r_17, runLater.sl.r_18, runLater.sl.r_19, runLater.sl.r_20, runLater.sl.r_21,
    runLater.sl.r_22, runLater.sl.r_23, runLater.sl.r_24, runLater.sl.r_25, runLater.sl.r_26, runLater.sl.r_27, runLater.sl.r_28,
    runLater.sl.r_29, runLater.sl.r_30, runLater.sl.r_31, runLater.sl.r_32, runLater.sl.r_33, runLater.sl.r_34, runLater.sl.r_35,
    runLater.sl.r_36, runLater.sl.r_37, runLater.sl.r_38, runLater.sl.r_39, runLater.sl.r_40, runLater.sl.r_41, runLater.sl.r_42,
    runLater.sl.r_43, runLater.sl.r_44, runLater.sl.r_45, runLater.sl.r_46, runLater.sl.r_47, runLater.sl.r_48, runLater.sl.r_49,
    runLater.sl.r_50, runLater.sl.r_51, runLater.sl.r_52, runLater.sl.cst_593, runLater.sl.cst_594,
    k0_pay3, k0_pay199, k0_pay200, k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218, k0_pay219, k0_pay220, k0_pay221,
    k0_pay222, k0_pay223, k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243, k0_pay244, k0_pay245,
    k0_pay246, k0_pay247, k0_pay248, k0_pay249, k0_pay250, k0_pay251, k0_pay252, k0_pay253, k0_pay254, k0_pay255, k0_pay256, k0_pay257,
    k0_pay258, k0_pay259, k0_pay260, k0_pay261, k0_pay262, k0_pay263, k0_pay264, k0_pay265, k0_pay266, k0_pay267, k0_pay268, k0_pay269,
    k0_pay270, k0_pay271, k0_pay272, k0_pay273, k0_pay274, k0_pay275, k0_pay276, k0_pay277, k0_pay278, k0_pay279, k0_pay280, k0_pay281,
    k0_pay282, k0_pay283, k0_pay284, k0_pay285, k0_pay286, k0_pay287, k0_pay288, k0_pay289, k0_pay290, k0_pay291, k0_pay292, k0_pay293,
    k0_pay294, k0_pay295, k0_pay296, k0_pay297, k0_pay298, k0_pay299, k0_pay300, k0_pay301, k0_pay302, k0_pay303, k0_pay304, k0_pay305,
    k0_pay306, k0_pay307, k0_pay308, k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326, k0_pay327, k0_pay328, k0_pay329,
    k0_pay330, k0_pay331, k0_pay332, k0_pay333, k0_pay334, k0_pay335, k0_pay336, k0_pay337, k0_pay338, k0_pay339, k0_pay340, k0_pay341,
    k0_pay342, k0_pay343, k0_pay344, k0_pay345, k0_pay346, k0_pay347, k0_pay348, k0_pay349, k0_pay350, k0_pay351, k0_pay352, k0_pay353,
    k0_pay354, k0_pay355, k0_pay356, k0_pay357, k0_pay358, k0_pay359, k0_pay360, k0_pay361, k0_pay362, k0_pay363, k0_pay364, k0_pay365,
    k0_pay366, k0_pay367, k0_pay368, k0_pay369, k0_pay370, k0_pay371, k0_pay372, k0_pay373, k0_pay374, k0_pay375, k0_pay376, k0_pay377,
    k0_pay378, k0_pay379, k0_pay380, k0_pay381, k0_pay382, k0_pay383, k0_pay384, k0_pay385, k0_pay386, k0_pay387, k0_pay388, k0_pay389,
    k0_pay390, k0_pay391, k0_pay392, k0_pay393, k0_pay394, k0_pay395, k0_pay396, k0_pay397, k0_pay398, k0_pay399, k0_pay400, k0_pay401,
    k0_pay402, k0_pay403, k0_pay404, k0_pay405, k0_pay406, k0_pay407, k0_pay408, k0_pay409, k0_pay410, k0_pay411, k0_pay412, k0_pay413,
    k0_pay414, k0_pay415, k0_pay416, k0_pay417, k0_pay418, k0_pay419, k0_pay420, k0_pay421, k0_pay422, k0_pay423, k0_pay424, k0_pay425,
    k0_pay426, k0_pay427, k0_pay428, k0_pay429, k0_pay430, k0_pay431]
  repeat' apply And.intro
  all_goals first | trivial | (intro x; exact codeB_emb x0 x1 _ _ _ x)

theorem later_LS5 : ∃ L', (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5).2.2.2.2.2.1 = ringPieces x2 ++ L' := by
  refine ⟨runLater.sl.HS5_17 c arg3 harg3 x2, ?_⟩
  simp (disch := decide) only [runLater, shapeCast_self, ringPieces, View.readAt_eq_ld, Memref.IsWhole.read_unread, ld_w, wide_w, List.cons_append, List.nil_append,
    runLater.sl.HS5_18, runLater.sl.HS5_19, runLater.sl.HS5_20,
    runLater.sl.r, runLater.sl.r_1, runLater.sl.r_2, runLater.sl.r_3, runLater.sl.r_4, runLater.sl.r_5, runLater.sl.r_6, runLater.sl.r_7,
    runLater.sl.r_8, runLater.sl.r_9, runLater.sl.r_10, runLater.sl.r_11, runLater.sl.r_12, runLater.sl.r_13, runLater.sl.r_14,
    runLater.sl.r_15, runLater.sl.r_16, runLater.sl.r_17, runLater.sl.r_18, runLater.sl.r_19, runLater.sl.r_20, runLater.sl.r_21,
    runLater.sl.r_22, runLater.sl.r_23, runLater.sl.r_24, runLater.sl.r_25, runLater.sl.r_26, runLater.sl.r_27, runLater.sl.r_28,
    runLater.sl.r_29, runLater.sl.r_30, runLater.sl.r_31, runLater.sl.r_32, runLater.sl.r_33, runLater.sl.r_34, runLater.sl.r_35,
    runLater.sl.r_36, runLater.sl.r_37, runLater.sl.r_38, runLater.sl.r_39, runLater.sl.r_40, runLater.sl.r_41, runLater.sl.r_42,
    runLater.sl.r_43, runLater.sl.r_44, runLater.sl.r_45, runLater.sl.r_46, runLater.sl.r_47, runLater.sl.r_48, runLater.sl.r_49,
    runLater.sl.r_50, runLater.sl.r_51, runLater.sl.r_52,
    k0_pay3, k0_pay199, k0_pay200, k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218, k0_pay219, k0_pay220, k0_pay221,
    k0_pay222, k0_pay223, k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243, k0_pay244, k0_pay245,
    k0_pay246, k0_pay247, k0_pay248, k0_pay249, k0_pay250, k0_pay251, k0_pay252, k0_pay253, k0_pay254, k0_pay255, k0_pay256, k0_pay257,
    k0_pay258, k0_pay259, k0_pay260, k0_pay261, k0_pay262, k0_pay263, k0_pay264, k0_pay265, k0_pay266, k0_pay267, k0_pay268, k0_pay269,
    k0_pay270, k0_pay271, k0_pay272, k0_pay273, k0_pay274, k0_pay275, k0_pay276, k0_pay277, k0_pay278, k0_pay279, k0_pay280, k0_pay281,
    k0_pay282, k0_pay283, k0_pay284, k0_pay285, k0_pay286, k0_pay287, k0_pay288, k0_pay289, k0_pay290, k0_pay291, k0_pay292, k0_pay293,
    k0_pay294, k0_pay295, k0_pay296, k0_pay297, k0_pay298, k0_pay299, k0_pay300, k0_pay301, k0_pay302, k0_pay303, k0_pay304, k0_pay305,
    k0_pay306, k0_pay307, k0_pay308, k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326, k0_pay327, k0_pay328, k0_pay329,
    k0_pay330, k0_pay331, k0_pay332, k0_pay333, k0_pay334, k0_pay335, k0_pay336, k0_pay337, k0_pay338, k0_pay339, k0_pay340, k0_pay341,
    k0_pay342, k0_pay343, k0_pay344, k0_pay345, k0_pay346, k0_pay347, k0_pay348, k0_pay349, k0_pay350, k0_pay351, k0_pay352, k0_pay353,
    k0_pay354, k0_pay355, k0_pay356, k0_pay357, k0_pay358, k0_pay359, k0_pay360, k0_pay361, k0_pay362, k0_pay363, k0_pay364, k0_pay365,
    k0_pay366, k0_pay367, k0_pay368, k0_pay369, k0_pay370, k0_pay371, k0_pay372, k0_pay373, k0_pay374, k0_pay375, k0_pay376, k0_pay377,
    k0_pay378, k0_pay379, k0_pay380, k0_pay381, k0_pay382, k0_pay383, k0_pay384, k0_pay385, k0_pay386, k0_pay387, k0_pay388, k0_pay389,
    k0_pay390, k0_pay391, k0_pay392, k0_pay393, k0_pay394, k0_pay395, k0_pay396, k0_pay397, k0_pay398, k0_pay399, k0_pay400, k0_pay401,
    k0_pay402, k0_pay403, k0_pay404, k0_pay405, k0_pay406, k0_pay407, k0_pay408, k0_pay409, k0_pay410, k0_pay411, k0_pay412, k0_pay413,
    k0_pay414, k0_pay415, k0_pay416, k0_pay417, k0_pay418, k0_pay419, k0_pay420, k0_pay421, k0_pay422, k0_pay423, k0_pay424, k0_pay425,
    k0_pay426, k0_pay427, k0_pay428, k0_pay429, k0_pay430, k0_pay431]

set_option maxHeartbeats 3200000 in
theorem later_L5 (h : RingOK x2 xs5) : View.PiecesOf (Val := Elt Ideal) (yB xs2 xs3 x2 x3 x4) (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5).1 := by
  simp (disch := decide) only [runLater, View.PiecesOf, shapeCast_self, View.readAt_eq_ld, Memref.IsWhole.read_unread, View.ld_unit_lit', ld_w, wide_w, ld_row, y_eq,
    ↓View.readCov_skip, View.readCov_fill, readCov_head, ld_lhs, ld_ring _ _ h 0 (by decide), ld_ring _ _ h 1 (by decide), ld_ring _ _ h 2 (by decide),
    runLater.sl.v68, runLater.sl.v69, runLater.sl.v130, runLater.sl.v131, runLater.sl.v193, runLater.sl.v194, runLater.sl.v256,
    runLater.sl.v257, runLater.sl.v334, runLater.sl.v396, runLater.sl.v459, runLater.sl.v484, runLater.sl.v557, runLater.sl.v615,
    runLater.sl.v674, runLater.sl.v733, runLater.sl.v806, runLater.sl.v864, runLater.sl.v923, runLater.sl.v982, runLater.sl.v1055,
    runLater.sl.v1081, runLater.sl.v1091, runLater.sl.v1101, runLater.sl.HS5_4, runLater.sl.HS5_5, runLater.sl.HS5_6, runLater.sl.HS5_7,
    runLater.sl.HS5_8, runLater.sl.HS5_9, runLater.sl.HS5_10, runLater.sl.HS5_11, runLater.sl.HS5_12, runLater.sl.HS5_13, runLater.sl.HS5_14,
    runLater.sl.HS5_15, runLater.sl.HS5_16, runLater.sl.HS5_17, runLater.sl.HS5_18, runLater.sl.HS5_19, runLater.sl.HS5_20, runLater.sl.HS4_1,
    runLater.sl.r, runLater.sl.r_1, runLater.sl.r_2, runLater.sl.r_3, runLater.sl.r_4, runLater.sl.r_5, runLater.sl.r_6, runLater.sl.r_7,
    runLater.sl.r_8, runLater.sl.r_9, runLater.sl.r_10, runLater.sl.r_11, runLater.sl.r_12, runLater.sl.r_13, runLater.sl.r_14,
    runLater.sl.r_15, runLater.sl.r_16, runLater.sl.r_17, runLater.sl.r_18, runLater.sl.r_19, runLater.sl.r_20, runLater.sl.r_21,
    runLater.sl.r_22, runLater.sl.r_23, runLater.sl.r_24, runLater.sl.r_25, runLater.sl.r_26, runLater.sl.r_27, runLater.sl.r_28,
    runLater.sl.r_29, runLater.sl.r_30, runLater.sl.r_31, runLater.sl.r_32, runLater.sl.r_33, runLater.sl.r_34, runLater.sl.r_35,
    runLater.sl.r_36, runLater.sl.r_37, runLater.sl.r_38, runLater.sl.r_39, runLater.sl.r_40, runLater.sl.r_41, runLater.sl.r_42,
    runLater.sl.r_43, runLater.sl.r_44, runLater.sl.r_45, runLater.sl.r_46, runLater.sl.r_47, runLater.sl.r_48, runLater.sl.r_49,
    runLater.sl.r_50, runLater.sl.r_51, runLater.sl.r_52,
    k0_pay3, k0_pay199, k0_pay200, k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218, k0_pay219, k0_pay220, k0_pay221,
    k0_pay222, k0_pay223, k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243, k0_pay244, k0_pay245,
    k0_pay246, k0_pay247, k0_pay248, k0_pay249, k0_pay250, k0_pay251, k0_pay252, k0_pay253, k0_pay254, k0_pay255, k0_pay256, k0_pay257,
    k0_pay258, k0_pay259, k0_pay260, k0_pay261, k0_pay262, k0_pay263, k0_pay264, k0_pay265, k0_pay266, k0_pay267, k0_pay268, k0_pay269,
    k0_pay270, k0_pay271, k0_pay272, k0_pay273, k0_pay274, k0_pay275, k0_pay276, k0_pay277, k0_pay278, k0_pay279, k0_pay280, k0_pay281,
    k0_pay282, k0_pay283, k0_pay284, k0_pay285, k0_pay286, k0_pay287, k0_pay288, k0_pay289, k0_pay290, k0_pay291, k0_pay292, k0_pay293,
    k0_pay294, k0_pay295, k0_pay296, k0_pay297, k0_pay298, k0_pay299, k0_pay300, k0_pay301, k0_pay302, k0_pay303, k0_pay304, k0_pay305,
    k0_pay306, k0_pay307, k0_pay308, k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326, k0_pay327, k0_pay328, k0_pay329,
    k0_pay330, k0_pay331, k0_pay332, k0_pay333, k0_pay334, k0_pay335, k0_pay336, k0_pay337, k0_pay338, k0_pay339, k0_pay340, k0_pay341,
    k0_pay342, k0_pay343, k0_pay344, k0_pay345, k0_pay346, k0_pay347, k0_pay348, k0_pay349, k0_pay350, k0_pay351, k0_pay352, k0_pay353,
    k0_pay354, k0_pay355, k0_pay356, k0_pay357, k0_pay358, k0_pay359, k0_pay360, k0_pay361, k0_pay362, k0_pay363, k0_pay364, k0_pay365,
    k0_pay366, k0_pay367, k0_pay368, k0_pay369, k0_pay370, k0_pay371, k0_pay372, k0_pay373, k0_pay374, k0_pay375, k0_pay376, k0_pay377,
    k0_pay378, k0_pay379, k0_pay380, k0_pay381, k0_pay382, k0_pay383, k0_pay384, k0_pay385, k0_pay386, k0_pay387, k0_pay388, k0_pay389,
    k0_pay390, k0_pay391, k0_pay392, k0_pay393, k0_pay394, k0_pay395, k0_pay396, k0_pay397, k0_pay398, k0_pay399, k0_pay400, k0_pay401,
    k0_pay402, k0_pay403, k0_pay404, k0_pay405, k0_pay406, k0_pay407, k0_pay408, k0_pay409, k0_pay410, k0_pay411, k0_pay412, k0_pay413,
    k0_pay414, k0_pay415, k0_pay416, k0_pay417, k0_pay418, k0_pay419, k0_pay420, k0_pay421, k0_pay422, k0_pay423, k0_pay424, k0_pay425,
    k0_pay426, k0_pay427, k0_pay428, k0_pay429, k0_pay430, k0_pay431]
  exact ⟨fun x => yTile_emb xs2 xs3 x2 x3 x4 2048 _ x, fun x => yTile_emb xs2 xs3 x2 x3 x4 1536 _ x, fun x => yTile_emb xs2 xs3 x2 x3 x4 1024 _ x,
    fun x => yTile_emb xs2 xs3 x2 x3 x4 512 _ x, fun x => yTile_emb xs2 xs3 x2 x3 x4 0 _ x, trivial⟩

theorem later_read_L5 (h : RingOK x2 xs5) {κ : Kind} {sp : Space} (v : View sig κ sp S1x256x2560 .bf16) (f : v.ty.Contents (Elt Ideal)) :
    v.read (Elt Ideal) (v.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5).1) = yB xs2 xs3 x2 x3 x4 :=
  read_pieces v f _ _ (later_L5 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5 h) fun y => View.cover_of_tiledL (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5).1 S1x256x512.size (by sl_kernel_rfl) y

theorem later_read_L6 {κ : Kind} {sp : Space} (v : View sig κ sp S1x256x7168 .i8) (f : v.ty.Contents (Elt Ideal)) :
    v.read (Elt Ideal) (v.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5).2.1) = codeB x0 x1 :=
  read_pieces v f _ _ (later_L6 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5) fun y => View.cover_of_tiledL (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5).2.1 S1x256x256.size (by sl_kernel_rfl) y

theorem later_read_L7 {κ : Kind} {sp : Space} (v : View sig κ sp S1x256x1 .f32) (f : v.ty.Contents (Elt Ideal)) :
    v.read (Elt Ideal) (v.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5).2.2.1) = scaleB x0 x1 :=
  read_pieces v f _ _ (later_L7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5) fun y => View.cover_of_tiledL (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5).2.2.1 S1x256x1.size (by sl_kernel_rfl) y

theorem later_read_LS2 {κ : Kind} {sp : Space} (v : View sig κ sp S256x7168 .i8) (f : v.ty.Contents (Elt Ideal)) :
    v.read (Elt Ideal) (v.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5).2.2.2.1) = codeV x0 x1 :=
  read_pieces v f _ _ (later_LS2 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5) fun y => View.cover_of_tiledL (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5).2.2.2.1 S256x256.size (by sl_kernel_rfl) y

theorem later_read_LS3 {κ : Kind} {sp : Space} (v : View sig κ sp S256x1 .f32) (f : v.ty.Contents (Elt Ideal)) :
    v.read (Elt Ideal) (v.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5).2.2.2.2.1) = scaleV x0 x1 :=
  read_pieces v f _ _ (later_LS3 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5) fun y => View.cover_of_tiledL (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5).2.2.2.2.1 S256x1.size (by sl_kernel_rfl) y

theorem later_ring {κ : Kind} {sp : Space} (v : View sig κ sp S4x1792x512 .bf16) (f : v.ty.Contents (Elt Ideal)) :
    RingOK x2 (v.read (Elt Ideal) (v.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5).2.2.2.2.2.1)) := by
  refine Exists.elim (later_LS5 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs2 xs3 xs5) fun L' h => ?_
  exact (congrArg (fun L => RingOK x2 (v.read (Elt Ideal) (v.writes (Elt Ideal) f L))) h).mpr (ring_of_writes v x2 f L')

end Cert.KernelIdeal.Body
end
-- ==== Proof.Run.lean ====
/- The run of the kernel over the extended reals: what each grid point finds and leaves, and what every array holds
   at the end.

   After a point the two buffers the next point reads hold this point's codes and scales, and the first three slots of
   the ring hold the first three pieces of the widened weights. A point other than the first multiplies the codes that
   the point before left, so the output it stores is the previous block's. -/
module

public import proofs.«01_k».proof.Proof.ValueA
public import proofs.«01_k».proof.Proof.ValueB
public import proofs.«01_k».proof.Proof.Points
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What a point finds and leaves -/

/-- The point before `t` (the first point's is itself). -/
def prev (t : Fin cfg0.N) : Fin cfg0.N := ⟨t.val - 1, Nat.lt_of_le_of_lt (Nat.sub_le _ _) t.isLt⟩

/-- The rows of point `t`. -/
def rowsAt (c : Dev nD) (t : Fin cfg0.N) : Vec Ideal S1x256x7168 .bf16 := iblk m c 0 t
/-- The rotation table. -/
def tabAt (c : Dev nD) (t : Fin cfg0.N) : Vec Ideal S256x256 .bf16 := iblk m c 1 t
/-- The weights' codes. -/
def wgtAt (c : Dev nD) (t : Fin cfg0.N) : Vec Ideal S7168x2560 .i8 := iblk m c 2 t
/-- The weights' scales. -/
def wscAt (c : Dev nD) (t : Fin cfg0.N) : Vec Ideal S1x2560 .f32 := iblk m c 3 t
/-- The bias. -/
def biasAt (c : Dev nD) (t : Fin cfg0.N) : Vec Ideal S1x2560 .f32 := iblk m c 4 t

/-- The weights are the same at every point. -/
theorem wgtAt_const (c : Dev nD) (t t' : Fin cfg0.N) : wgtAt m c t = wgtAt m c t' := rfl

/-- The invariant before position `n`: before the first point every scratch buffer at anything; afterwards the carried
    codes and scales are the last point's, and the ring's first three slots hold the first three pieces. -/
def invAt (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare (codeV (rowsAt m c ⟨n, hn⟩) (tabAt m c ⟨n, hn⟩)) ∗ owns (c : Thread nD τ) scM0_3 fullShare (scaleV (rowsAt m c ⟨n, hn⟩) (tabAt m c ⟨n, hn⟩)) ∗ (∃ d, owns (c : Thread nD τ) scM0_4 fullShare d) ∗ (∃ d, ⌜RingOK (wgtAt m c ⟨n, hn⟩) d⌝ ∗ owns (c : Thread nD τ) scM0_5 fullShare d)) ∗ (∃ r, prngReg c r))

theorem invAt_zero (c : Dev nD) (n : ℕ) (h : n ≤ cfg0.N) (hz : n = 0) : invAt m c n h = Pipeline.ΦA spec0 c := by
  subst hz; rfl

theorem invAt_succ (c : Dev nD) (t : Fin cfg0.N) :
    invAt m c (t.val + 1) t.isLt = iprop(iprop((∃ d, owns (c : Thread nD τ) scM0_0 fullShare d) ∗ (∃ d, owns (c : Thread nD τ) scM0_1 fullShare d) ∗ owns (c : Thread nD τ) scM0_2 fullShare (codeV (rowsAt m c t) (tabAt m c t)) ∗ owns (c : Thread nD τ) scM0_3 fullShare (scaleV (rowsAt m c t) (tabAt m c t)) ∗ (∃ d, owns (c : Thread nD τ) scM0_4 fullShare d) ∗ (∃ d, ⌜RingOK (wgtAt m c t) d⌝ ∗ owns (c : Thread nD τ) scM0_5 fullShare d)) ∗ (∃ r, prngReg c r)) := rfl

theorem invAt_pos (c : Dev nD) (n : ℕ) (hn : n < cfg0.N) (h : n ≤ cfg0.N) (hz : n ≠ 0) :
    invAt m c n h = iprop(iprop((∃ d, owns (c : Thread nD τ) scM0_0 fullShare d) ∗ (∃ d, owns (c : Thread nD τ) scM0_1 fullShare d) ∗ owns (c : Thread nD τ) scM0_2 fullShare (codeV (rowsAt m c (prev ⟨n, hn⟩)) (tabAt m c (prev ⟨n, hn⟩))) ∗ owns (c : Thread nD τ) scM0_3 fullShare (scaleV (rowsAt m c (prev ⟨n, hn⟩)) (tabAt m c (prev ⟨n, hn⟩))) ∗ (∃ d, owns (c : Thread nD τ) scM0_4 fullShare d) ∗ (∃ d, ⌜RingOK (wgtAt m c (prev ⟨n, hn⟩)) d⌝ ∗ owns (c : Thread nD τ) scM0_5 fullShare d)) ∗ (∃ r, prngReg c r)) := by
  cases n with
  | zero => exact absurd rfl hz
  | succ n => rfl

/-! ## The pipeline's proof data -/

/-- The proof data of the pipeline on core `c`: after the body at point `t` each input's buffer holds its block, and the
    outputs' buffers hold the previous block's output and this block's codes and scales. -/
def datas (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yB (codeV (rowsAt m c (prev t)) (tabAt m c (prev t))) (scaleV (rowsAt m c (prev t)) (tabAt m c (prev t))) (wgtAt m c t) (wscAt m c t) (biasAt m c t)
    | ⟨6, _⟩ => codeB (rowsAt m c t) (tabAt m c t)
    | ⟨7, _⟩ => scaleB (rowsAt m c t) (tabAt m c t)
  Φ t := invAt m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (datas m 0 c).A w = V m c (Pipeline.arrRef spec0 w) := by
  dsimp only [datas]

/-- The invariant at a point's start (the proof data at `t.castSucc`), restated at `t.val`. -/
theorem invAt_castSucc (c : Dev nD) (t : Fin cfg0.N) :
    (datas m 0 c).Φ t.castSucc = invAt m c t.val (Nat.le_of_lt t.isLt) := by
  dsimp only [datas]; exact Pipeline.Dat.Φ_castSucc (invAt m c) t

/-- What the body leaves, window by window (the proof data's `match` reduced by `dsimp`). -/
theorem after0_0 (c : Dev nD) (t : Fin cfg0.N) : (datas m 0 c).after 0 t = iblk m c 0 t := by dsimp only [datas]
theorem after0_1 (c : Dev nD) (t : Fin cfg0.N) : (datas m 0 c).after 1 t = iblk m c 1 t := by dsimp only [datas]
theorem after0_2 (c : Dev nD) (t : Fin cfg0.N) : (datas m 0 c).after 2 t = iblk m c 2 t := by dsimp only [datas]
theorem after0_3 (c : Dev nD) (t : Fin cfg0.N) : (datas m 0 c).after 3 t = iblk m c 3 t := by dsimp only [datas]
theorem after0_4 (c : Dev nD) (t : Fin cfg0.N) : (datas m 0 c).after 4 t = iblk m c 4 t := by dsimp only [datas]
theorem after0_5 (c : Dev nD) (t : Fin cfg0.N) : (datas m 0 c).after 5 t = yB (codeV (rowsAt m c (prev t)) (tabAt m c (prev t))) (scaleV (rowsAt m c (prev t)) (tabAt m c (prev t))) (wgtAt m c t) (wscAt m c t) (biasAt m c t) := by dsimp only [datas]
theorem after0_6 (c : Dev nD) (t : Fin cfg0.N) : (datas m 0 c).after 6 t = codeB (rowsAt m c t) (tabAt m c t) := by dsimp only [datas]
theorem after0_7 (c : Dev nD) (t : Fin cfg0.N) : (datas m 0 c).after 7 t = scaleB (rowsAt m c t) (tabAt m c t) := by dsimp only [datas]

/-- Each input's current staging buffer holds its block at every point, fetched there or not (`beforeK_W_of`). -/
theorem before0_0 (c : Dev nD) (t : Fin cfg0.N) (d) : (datas m 0 c).before 0 t d = iblk m c 0 t :=
  before0_0_of m (datas m 0 c) (A_eq m c 0) (after0_0 m c) t d
theorem before0_1 (c : Dev nD) (t : Fin cfg0.N) (d) : (datas m 0 c).before 1 t d = iblk m c 1 t :=
  before0_1_of m (datas m 0 c) (A_eq m c 1) (after0_1 m c) t d
theorem before0_2 (c : Dev nD) (t : Fin cfg0.N) (d) : (datas m 0 c).before 2 t d = iblk m c 2 t :=
  before0_2_of m (datas m 0 c) (A_eq m c 2) (after0_2 m c) t d
theorem before0_3 (c : Dev nD) (t : Fin cfg0.N) (d) : (datas m 0 c).before 3 t d = iblk m c 3 t :=
  before0_3_of m (datas m 0 c) (A_eq m c 3) (after0_3 m c) t d
theorem before0_4 (c : Dev nD) (t : Fin cfg0.N) (d) : (datas m 0 c).before 4 t d = iblk m c 4 t :=
  before0_4_of m (datas m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((datas m 0 c).Φ t.castSucc ∗ (datas m 0 c).owesAt () t.castSucc
    ∗ (∃ d, owns (c : Thread nD τ) (ms0_0 t) fullShare ((datas m 0 c).before 0 t d))
    ∗ (∃ d, owns (c : Thread nD τ) (ms0_1 t) fullShare ((datas m 0 c).before 1 t d))
    ∗ (∃ d, owns (c : Thread nD τ) (ms0_2 t) fullShare ((datas m 0 c).before 2 t d))
    ∗ (∃ d, owns (c : Thread nD τ) (ms0_3 t) fullShare ((datas m 0 c).before 3 t d))
    ∗ (∃ d, owns (c : Thread nD τ) (ms0_4 t) fullShare ((datas m 0 c).before 4 t d))
    ∗ (∃ d, owns (c : Thread nD τ) (ms0_5 t) fullShare ((datas m 0 c).before 5 t d))
    ∗ (∃ d, owns (c : Thread nD τ) (ms0_6 t) fullShare ((datas m 0 c).before 6 t d))
    ∗ (∃ d, owns (c : Thread nD τ) (ms0_7 t) fullShare ((datas m 0 c).before 7 t d)))

/-- and what it returns. -/
def bodyPost (c : Dev nD) (t : Fin cfg0.N) : sProp 𝕄 :=
  iprop((datas m 0 c).Φ t.succ ∗ (datas m 0 c).owesAt () t.succ
    ∗ (datas m 0 c).leavesExact 0 t
    ∗ (datas m 0 c).leavesExact 1 t
    ∗ (datas m 0 c).leavesExact 2 t
    ∗ (datas m 0 c).leavesExact 3 t
    ∗ (datas m 0 c).leavesExact 4 t
    ∗ (datas m 0 c).leavesExact 5 t
    ∗ (datas m 0 c).leavesExact 6 t
    ∗ (datas m 0 c).leavesExact 7 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`invAt_pos`; at anything at the first point, `invAt_zero`), the other scratch buffers and the generator register at some state, and takes the carried scratch back at this point's contents (`invAt_succ`, by `scoverK_κ_N`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (datas m 0 c).owesAt () t.succ = (datas m 0 c).owesAt () t.castSucc from rfl]
  rw [show (datas m 0 c).Φ t.succ = invAt m c (t.val + 1) t.isLt from rfl, invAt_succ]
  have hN : t.val < 33 := lt_of_lt_of_eq t.isLt (show cfg0.N = 33 from N_0)
  by_cases h0 : t.val % 33 = 0
  · by_cases h1 : 1 ≤ t.val
    · exfalso; omega
    · rw [show (datas m 0 c).leavesExact 0 t = owns (c : Thread nD τ) (ms0_0 t) fullShare ((datas m 0 c).after 0 t) from by
      unfold Dat.leavesExact; rw [liveAt0_0 t], after0_0]
      rw [show (datas m 0 c).leavesExact 1 t = owns (c : Thread nD τ) (ms0_1 t) fullShare ((datas m 0 c).after 1 t) from by
      unfold Dat.leavesExact; rw [liveAt0_1 t], after0_1]
      rw [show (datas m 0 c).leavesExact 2 t = owns (c : Thread nD τ) (ms0_2 t) fullShare ((datas m 0 c).after 2 t) from by
      unfold Dat.leavesExact; rw [liveAt0_2 t], after0_2]
      rw [show (datas m 0 c).leavesExact 3 t = owns (c : Thread nD τ) (ms0_3 t) fullShare ((datas m 0 c).after 3 t) from by
      unfold Dat.leavesExact; rw [liveAt0_3 t], after0_3]
      rw [show (datas m 0 c).leavesExact 4 t = owns (c : Thread nD τ) (ms0_4 t) fullShare ((datas m 0 c).after 4 t) from by
      unfold Dat.leavesExact; rw [liveAt0_4 t], after0_4]
      rw [Dat.leavesExact_idle (datas m 0 c) 5 t (idleAt0_5_A t ((hcond0_0 t).mpr h0) (fun h => h1 ((hcond0_1 t).mp h))) (noFlush0_5_A t ((hcond0_0 t).mpr h0) (fun h => h1 ((hcond0_1 t).mp h)))]
      rw [show (datas m 0 c).leavesExact 6 t = owns (c : Thread nD τ) (ms0_6 t) fullShare ((datas m 0 c).after 6 t) from by
      unfold Dat.leavesExact; rw [liveAt0_6_A t ((hcond0_0 t).mpr h0) (fun h => h1 ((hcond0_1 t).mp h))], after0_6]
      rw [show (datas m 0 c).leavesExact 7 t = owns (c : Thread nD τ) (ms0_7 t) fullShare ((datas m 0 c).after 7 t) from by
      unfold Dat.leavesExact; rw [liveAt0_7_A t ((hcond0_0 t).mpr h0) (fun h => h1 ((hcond0_1 t).mp h))], after0_7]
      by_cases hz : t.val = 0
      · rw [invAt_castSucc m c t, invAt_zero m c _ _ hz, PhiA0_eq]
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((runFirst c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, ⟨%e6, H6⟩, ⟨%e7, H7⟩, ⟨%fT0, HS0⟩, ⟨%fT1, HS1⟩, ⟨%es2, HS2⟩, ⟨%es3, HS3⟩, HS4, ⟨%es5, HS5⟩⟩
        isplitl [HS0 HS1 HS2 HS3 HS4 HS5 Hg]
        · isplitl [HS0 HS1 HS2 HS3 HS4 HS5]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · unfold owns; iexists _; isplitr
              swap; · iexact HS2
              ipureintro; exact first_read_LS2 c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ _
            isplitl [HS3]
            · unfold owns; iexists _; isplitr
              swap; · iexact HS3
              ipureintro; exact first_read_LS3 c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ _
            isplitl [HS4]
            · iexact HS4
            iexists _; isplitr
            swap
            · unfold owns; iexists _; isplitr
              swap; · iexact HS5
              ipureintro; rfl
            ipureintro; exact first_ring c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact first_read_L6 c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ _
        unfold owns; iexists _; isplitr
        swap; · iexact H7
        ipureintro; exact first_read_L7 c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ _
      · exfalso; have hN : t.val < 33 := lt_of_lt_of_eq t.isLt (show cfg0.N = 33 from N_0); omega
  · by_cases h1 : 1 ≤ t.val
    · rw [show (datas m 0 c).leavesExact 0 t = owns (c : Thread nD τ) (ms0_0 t) fullShare ((datas m 0 c).after 0 t) from by
      unfold Dat.leavesExact; rw [liveAt0_0 t], after0_0]
      rw [show (datas m 0 c).leavesExact 1 t = owns (c : Thread nD τ) (ms0_1 t) fullShare ((datas m 0 c).after 1 t) from by
      unfold Dat.leavesExact; rw [liveAt0_1 t], after0_1]
      rw [show (datas m 0 c).leavesExact 2 t = owns (c : Thread nD τ) (ms0_2 t) fullShare ((datas m 0 c).after 2 t) from by
      unfold Dat.leavesExact; rw [liveAt0_2 t], after0_2]
      rw [show (datas m 0 c).leavesExact 3 t = owns (c : Thread nD τ) (ms0_3 t) fullShare ((datas m 0 c).after 3 t) from by
      unfold Dat.leavesExact; rw [liveAt0_3 t], after0_3]
      rw [show (datas m 0 c).leavesExact 4 t = owns (c : Thread nD τ) (ms0_4 t) fullShare ((datas m 0 c).after 4 t) from by
      unfold Dat.leavesExact; rw [liveAt0_4 t], after0_4]
      rw [show (datas m 0 c).leavesExact 5 t = owns (c : Thread nD τ) (ms0_5 t) fullShare ((datas m 0 c).after 5 t) from by
      unfold Dat.leavesExact; rw [liveAt0_5_B t (fun h => h0 ((hcond0_0 t).mp h)) ((hcond0_1 t).mpr h1)], after0_5]
      rw [show (datas m 0 c).leavesExact 6 t = owns (c : Thread nD τ) (ms0_6 t) fullShare ((datas m 0 c).after 6 t) from by
      unfold Dat.leavesExact; rw [liveAt0_6_B t (fun h => h0 ((hcond0_0 t).mp h)) ((hcond0_1 t).mpr h1)], after0_6]
      rw [show (datas m 0 c).leavesExact 7 t = owns (c : Thread nD τ) (ms0_7 t) fullShare ((datas m 0 c).after 7 t) from by
      unfold Dat.leavesExact; rw [liveAt0_7_B t (fun h => h0 ((hcond0_0 t).mp h)) ((hcond0_1 t).mpr h1)], after0_7]
      by_cases hz : t.val = 0
      · exfalso; have hN : t.val < 33 := lt_of_lt_of_eq t.isLt (show cfg0.N = 33 from N_0); omega
      · rw [invAt_castSucc m c t, invAt_pos m c _ t.isLt _ hz]
        iintro ⟨⟨⟨HS0, HS1, HS2, HS3, HS4, ⟨%dr, %hring0, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        have hring : RingOK (iblk m c 2 t) dr := hring0
        iapply ((runLater c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _).2.2.2.2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, ⟨%e5, H5⟩, ⟨%e6, H6⟩, ⟨%e7, H7⟩, ⟨%fT0, HS0⟩, ⟨%fT1, HS1⟩, ⟨%es2, HS2⟩, ⟨%es3, HS3⟩, ⟨%fT4, HS4⟩, ⟨%es5, HS5⟩⟩
        isplitl [HS0 HS1 HS2 HS3 HS4 HS5 Hg]
        · isplitl [HS0 HS1 HS2 HS3 HS4 HS5]
          · isplitl [HS0]
            · iexists _; unfold owns; iexists _; isplitr
              swap; · iexact HS0
              ipureintro; rfl
            isplitl [HS1]
            · iexists _; unfold owns; iexists _; isplitr
              swap; · iexact HS1
              ipureintro; rfl
            isplitl [HS2]
            · unfold owns; iexists _; isplitr
              swap; · iexact HS2
              ipureintro; exact later_read_LS2 c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _ _ _
            isplitl [HS3]
            · unfold owns; iexists _; isplitr
              swap; · iexact HS3
              ipureintro; exact later_read_LS3 c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _ _ _
            isplitl [HS4]
            · iexists _; unfold owns; iexists _; isplitr
              swap; · iexact HS4
              ipureintro; rfl
            iexists _; isplitr
            swap
            · unfold owns; iexists _; isplitr
              swap; · iexact HS5
              ipureintro; rfl
            ipureintro; exact later_ring c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _ _ _
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact later_read_L5 c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _ hring _ _
        isplitl [H6]
        · unfold owns; iexists _; isplitr
          swap; · iexact H6
          ipureintro; exact later_read_L6 c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _ _ _
        unfold owns; iexists _; isplitr
        swap; · iexact H7
        ipureintro; exact later_read_L7 c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _ _ _
    · exfalso; omega

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (datas m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (datas m 0 c).Φ 0 := by
  rw [show (datas m 0 c).Φ 0 = invAt m c 0 (Nat.zero_le _) from rfl, invAt_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (datas m 0 c).Φ t ⊢ Pipeline.ΦA spec0 c := by
  obtain ⟨_ | n, hn⟩ := t
  · exact absurd rfl ht
  rw [show (datas m 0 c).Φ ⟨n + 1, hn⟩ = invAt m c (n + 1) (Nat.le_of_lt_succ hn) from rfl, invAt_succ m c ⟨n, Nat.lt_of_succ_lt_succ hn⟩, PhiA0_eq]
  iintro ⟨⟨HS0, HS1, HS2, HS3, HS4, ⟨%dr, -, HS5⟩⟩, Hg⟩
  isplitl [HS0 HS1 HS2 HS3 HS4 HS5]
  · isplitl [HS0]
    · iexact HS0
    isplitl [HS1]
    · iexact HS1
    isplitl [HS2]
    · iexists _; iexact HS2
    isplitl [HS3]
    · iexists _; iexact HS3
    isplitl [HS4]
    · iexact HS4
    iexists _; iexact HS5
  iexact Hg

/-- The same after the last point. -/
theorem hout (c : Dev nD) : (datas m 0 c).Φ (Fin.last cfg0.N) ⊢ Pipeline.ΦA spec0 c :=
  Phi_out m c _ (by rw [Fin.val_last]; have : cfg0.N = 33 := N_0; omega)

/-! ## The run and the frame -/

-- `θ_run_frame_track`'s implicit arguments are found by unifying its conclusion with this one, which takes unfolding plain
-- definitions in a metavariable's type
set_option backward.isDefEq.respectTransparency.types false in
/-- `run_main`'s statement, and every semaphore counter at zero at every final state. -/
theorem run_main_quiescent : θ_run defs (onTc (τ := τ) (main (F := Ideal))) (s₀ m ρ) (fun r => (Pipeline.FramePost cfgs (datas m) 0 (V m)) r ∧ r.2.sem = fun _ => 0) :=
  Pipeline.θ_run_frame_track (Q' := _) cfgs (datas m) (0 : Fin 1) launch0 defs₀ Variants.none m ρ main
    (hbody := fun c => (body_obligation m c).loose) (hshare := fun c => (datas m 0 c).share_full fun _ => rfl)
    (howed := fun _ _ => rfl) (V := V m) (hmain := hmain m Variants.none) (hA := A_eq m) (hin := hin m) (hout := hout m)

/-- From any memory with zero counters every weakly fair execution of @main terminates, and every final state has each array
    of the pipeline at what the points' values written back make it and every other buffer as the region found it. -/
theorem run_main : θ_run defs (onTc (τ := τ) (main (F := Ideal))) (s₀ m ρ) (Pipeline.FramePost cfgs (datas m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (datas m) (A_eq m) (run_main m ρ)

/-- The program ends, its arguments unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Body

end
-- ==== Proof.KPoints.lean ====
/- The grid points of the region: which branch each takes, where the outputs are idle, and the memrefs passed to the body. -/
module

public import proofs.«01_k».proof.Proof.Gen.Kernel.Frame
public import proofs.«01_k».proof.Proof.Gen.Kernel.Skeleton
public import Idealize.ShloMosaic.Lib.WordCmp

@[expose] public section

-- the rectangles have long axes: look once per coordinate of those
set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, k0_cond1, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (`Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A `Cfg.idle` calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B `Cfg.idle` calls output 5 live: the case stores into it. -/
theorem liveAt0_5_B : ∀ t : Fin cfg0.N, ¬cond0_0 (grid0.coords t) → cond0_1 (grid0.coords t) → cfg0.idle 5 (grid0.coords t) = false := by decide +kernel
/-- At the points of case A `Cfg.idle` calls output 6 live: the case stores into it. -/
theorem liveAt0_6_A : ∀ t : Fin cfg0.N, cond0_0 (grid0.coords t) → ¬cond0_1 (grid0.coords t) → cfg0.idle 6 (grid0.coords t) = false := by decide +kernel
/-- At the points of case B `Cfg.idle` calls output 6 live: the case stores into it. -/
theorem liveAt0_6_B : ∀ t : Fin cfg0.N, ¬cond0_0 (grid0.coords t) → cond0_1 (grid0.coords t) → cfg0.idle 6 (grid0.coords t) = false := by decide +kernel
/-- At the points of case A `Cfg.idle` calls output 7 live: the case stores into it. -/
theorem liveAt0_7_A : ∀ t : Fin cfg0.N, cond0_0 (grid0.coords t) → ¬cond0_1 (grid0.coords t) → cfg0.idle 7 (grid0.coords t) = false := by decide +kernel
/-- At the points of case B `Cfg.idle` calls output 7 live: the case stores into it. -/
theorem liveAt0_7_B : ∀ t : Fin cfg0.N, ¬cond0_0 (grid0.coords t) → cond0_1 (grid0.coords t) → cfg0.idle 7 (grid0.coords t) = false := by decide +kernel

/-! ## The staging memrefs and the scratch -/

/-- One staging buffer of output window 5, through which its contents are stated (`View.read_writes_of_cover`: the
    choice does not matter). -/
abbrev VO0_5 : View sig .tc .vmem S1x256x2560 .bf16 := (Memref.whole cc0_stg5_0 : Memref sig .tc .vmem S1x256x2560 .bf16).view
/-- One staging buffer of output window 6, through which its contents are stated (`View.read_writes_of_cover`: the
    choice does not matter). -/
abbrev VO0_6 : View sig .tc .vmem S1x256x7168 .i8 := (Memref.whole cc0_stg6_0 : Memref sig .tc .vmem S1x256x7168 .i8).view
/-- One staging buffer of output window 7, through which its contents are stated (`View.read_writes_of_cover`: the
    choice does not matter). -/
abbrev VO0_7 : View sig .tc .vmem S1x256x1 .f32 := (Memref.whole cc0_stg7_0 : Memref sig .tc .vmem S1x256x1 .f32).view
/-- Each window's current staging memref at point `t`, spelled as the pipeline passes it (`bodyAt0`), and its wholeness. -/
abbrev ms0_0 (t : Fin cfg0.N) : Memref sig .tc .vmem S1x256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x2560 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2560 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2560 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x2560 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x7168 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x7168 .f32 := Memref.whole cc0_scratch0
abbrev scM0_1 : Memref sig .tc .vmem S256x256 .f32 := Memref.whole cc0_scratch1
abbrev scM0_2 : Memref sig .tc .vmem S256x7168 .i8 := Memref.whole cc0_scratch2
abbrev scM0_3 : Memref sig .tc .vmem S256x1 .f32 := Memref.whole cc0_scratch3
abbrev scM0_4 : Memref sig .tc .vmem S256x7168 .bf16 := Memref.whole cc0_scratch4
abbrev scM0_5 : Memref sig .tc .vmem S4x1792x512 .bf16 := Memref.whole cc0_scratch5
/-- The scratch `arg11` the kernel carries between points, as a view: what it holds is stated through it. -/
abbrev VS0_2 : View sig .tc .vmem S256x7168 .i8 := scM0_2.view
/-- The scratch `arg12` the kernel carries between points, as a view: what it holds is stated through it. -/
abbrev VS0_3 : View sig .tc .vmem S256x1 .f32 := scM0_3.view
/-- The scratch `arg14` the kernel carries between points, as a view: what it holds is stated through it. -/
abbrev VS0_5 : View sig .tc .vmem S4x1792x512 .bf16 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Body

end
-- ==== Proof.KRunA.lean ====
/- The kernel body run at the first grid point (case A): what it reads and what it leaves in every buffer. -/
module

public import proofs.«01_k».proof.Proof.KPoints

@[expose] public section

-- the rectangles have long axes: look once per coordinate of those
set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 2060000 in
/-- What the body's stores leave in each output's staging memref, as pieces (last first) IN CASE A (`scf.if` 0 taken, `scf.if` 1 not taken: points 0), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def runFirst (c : Dev nD) (i : grid0.Coords) (arg1 : Memref sig .tc .vmem S1x256x7168 .bf16) (harg1 : arg1.IsWhole) (arg2 : Memref sig .tc .vmem S256x256 .bf16) (harg2 : arg2.IsWhole) (arg3 : Memref sig .tc .vmem S7168x2560 .i8) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .bf16) (harg6 : arg6.IsWhole) (arg7 : Memref sig .tc .vmem S1x256x7168 .i8) (harg7 : arg7.IsWhole) (arg8 : Memref sig .tc .vmem S1x256x1 .f32) (harg8 : arg8.IsWhole) (arg9 : Memref sig .tc .vmem S256x7168 .f32) (harg9 : arg9.IsWhole) (arg10 : Memref sig .tc .vmem S256x256 .f32) (harg10 : arg10.IsWhole) (arg11 : Memref sig .tc .vmem S256x7168 .i8) (harg11 : arg11.IsWhole) (arg12 : Memref sig .tc .vmem S256x1 .f32) (harg12 : arg12.IsWhole) (arg13 : Memref sig .tc .vmem S256x7168 .bf16) (harg13 : arg13.IsWhole) (arg14 : Memref sig .tc .vmem S4x1792x512 .bf16) (harg14 : arg14.IsWhole) (hc0 : cond0_0 i) (hc1 : ¬cond0_1 i)
    (x0 : Vec F S1x256x7168 .bf16) (x1 : Vec F S256x256 .bf16) (x2 : Vec F S7168x2560 .i8) (x3 : Vec F S1x2560 .f32) (x4 : Vec F S1x2560 .f32) :
    Σ' (L5 : List (View.Piece (Elt F) S1x256x2560 .bf16)), Σ' (L6 : List (View.Piece (Elt F) S1x256x7168 .i8)), Σ' (L7 : List (View.Piece (Elt F) S1x256x1 .f32)), Σ' (LS2 : List (View.Piece (Elt F) S256x7168 .i8)), Σ' (LS3 : List (View.Piece (Elt F) S256x1 .f32)), Σ' (LS5 : List (View.Piece (Elt F) S4x1792x512 .bf16)), Σ' (LT0 : List (View.Piece (Elt F) S256x7168 .f32)), Σ' (LT1 : List (View.Piece (Elt F) S256x256 .f32)), { LT4 : List (View.Piece (Elt F) S256x7168 .bf16) //
      ∀ (xi5 : Vec F S1x256x2560 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ d, owns (c : Thread nD τ) arg13 fullShare d) ∗ (∃ f, arg14.view.loc (c : Thread nD τ) ↦[arg14.view.set]{fullShare} arg14.view.writes (Elt F) f LS5)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, ?_, ?_, ?_, ?_, [], fun xi5 E K => ?run⟩
  case run =>
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    isplitl [HS4]
    · iexists _, _; isplitr; swap; · iexact HS4
      ipureintro; rfl
    iexists _; iexact HS5

end Cert.Kernel.Body

end
-- ==== Proof.KRunB.lean ====
/- The kernel body run at every later grid point (case B): what it reads and what it leaves in every buffer. -/
module

public import proofs.«01_k».proof.Proof.KPoints

@[expose] public section

-- the rectangles have long axes: look once per coordinate of those
set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 2732000 in
/-- What the body's stores leave in each output's staging memref, as pieces (last first) IN CASE B (`scf.if` 0 not taken, `scf.if` 1 taken: points 1, 2, … 32: 32 of 33), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def runLater (c : Dev nD) (i : grid0.Coords) (arg1 : Memref sig .tc .vmem S1x256x7168 .bf16) (harg1 : arg1.IsWhole) (arg2 : Memref sig .tc .vmem S256x256 .bf16) (harg2 : arg2.IsWhole) (arg3 : Memref sig .tc .vmem S7168x2560 .i8) (harg3 : arg3.IsWhole) (arg4 : Memref sig .tc .vmem S1x2560 .f32) (harg4 : arg4.IsWhole) (arg5 : Memref sig .tc .vmem S1x2560 .f32) (harg5 : arg5.IsWhole) (arg6 : Memref sig .tc .vmem S1x256x2560 .bf16) (harg6 : arg6.IsWhole) (arg7 : Memref sig .tc .vmem S1x256x7168 .i8) (harg7 : arg7.IsWhole) (arg8 : Memref sig .tc .vmem S1x256x1 .f32) (harg8 : arg8.IsWhole) (arg9 : Memref sig .tc .vmem S256x7168 .f32) (harg9 : arg9.IsWhole) (arg10 : Memref sig .tc .vmem S256x256 .f32) (harg10 : arg10.IsWhole) (arg11 : Memref sig .tc .vmem S256x7168 .i8) (harg11 : arg11.IsWhole) (arg12 : Memref sig .tc .vmem S256x1 .f32) (harg12 : arg12.IsWhole) (arg13 : Memref sig .tc .vmem S256x7168 .bf16) (harg13 : arg13.IsWhole) (arg14 : Memref sig .tc .vmem S4x1792x512 .bf16) (harg14 : arg14.IsWhole) (hc0 : ¬cond0_0 i) (hc1 : cond0_1 i)
    (x0 : Vec F S1x256x7168 .bf16) (x1 : Vec F S256x256 .bf16) (x2 : Vec F S7168x2560 .i8) (x3 : Vec F S1x2560 .f32) (x4 : Vec F S1x2560 .f32) (xs2 : Vec F S256x7168 .i8) (xs3 : Vec F S256x1 .f32) (xs5 : Vec F S4x1792x512 .bf16) :
    Σ' (L5 : List (View.Piece (Elt F) S1x256x2560 .bf16)), Σ' (L6 : List (View.Piece (Elt F) S1x256x7168 .i8)), Σ' (L7 : List (View.Piece (Elt F) S1x256x1 .f32)), Σ' (LS2 : List (View.Piece (Elt F) S256x7168 .i8)), Σ' (LS3 : List (View.Piece (Elt F) S256x1 .f32)), Σ' (LS5 : List (View.Piece (Elt F) S4x1792x512 .bf16)), Σ' (LT0 : List (View.Piece (Elt F) S256x7168 .f32)), Σ' (LT1 : List (View.Piece (Elt F) S256x256 .f32)), { LT4 : List (View.Piece (Elt F) S256x7168 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs2 ∗ owns (c : Thread nD τ) arg12 fullShare xs3 ∗ (∃ d, owns (c : Thread nD τ) arg13 fullShare d) ∗ owns (c : Thread nD τ) arg14 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LT4) ∗ (∃ f, arg14.view.loc (c : Thread nD τ) ↦[arg14.view.set]{fullShare} arg14.view.writes (Elt F) f LS5)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, ?_, fun E K => ?run⟩
  case run =>
    simp only [cc0__body_eq_skeleton]; unfold cc0__body_skel
    simp only [k0_part60_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%fs2, %hfs2, HS2⟩, ⟨%fs3, %hfs3, HS3⟩, ⟨%ds4, %fs4, -, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg11.eq_unread hfs2; obtain rfl := harg12.eq_unread hfs3; obtain rfl := harg14.eq_unread hfs5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Body

end
-- ==== Proof.KRun.lean ====
/- The frame of the kernel over floating-point words: it ends, its arguments are unchanged and every counter is at zero.

   Nothing is said of what the three results hold. -/
module

public import proofs.«01_k».proof.Proof.KRunA
public import proofs.«01_k».proof.Proof.KRunB

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of the three results, of whose contents nothing is said. -/
abbrev forgotten : Fin cfg0.W → Bool := fun w => Nat.ble 5 w.val

/-- The proof data of the pipeline on core `c`: after the body each input's buffer holds its block; the results' buffers
    are forgotten, so their contents here are immaterial. -/
def datas (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q _ := fullShare
  owed _ := 0

theorem A_eq (c : Dev nD) (w : Fin cfg0.W) : (datas m 0 c).A w = V m c (Pipeline.arrRef spec0 w) := by
  dsimp only [datas]

theorem after0_0 (c : Dev nD) (t : Fin cfg0.N) : (datas m 0 c).after 0 t = iblk m c 0 t := by dsimp only [datas]
theorem after0_1 (c : Dev nD) (t : Fin cfg0.N) : (datas m 0 c).after 1 t = iblk m c 1 t := by dsimp only [datas]
theorem after0_2 (c : Dev nD) (t : Fin cfg0.N) : (datas m 0 c).after 2 t = iblk m c 2 t := by dsimp only [datas]
theorem after0_3 (c : Dev nD) (t : Fin cfg0.N) : (datas m 0 c).after 3 t = iblk m c 3 t := by dsimp only [datas]
theorem after0_4 (c : Dev nD) (t : Fin cfg0.N) : (datas m 0 c).after 4 t = iblk m c 4 t := by dsimp only [datas]
theorem before0_0 (c : Dev nD) (t : Fin cfg0.N) (d) : (datas m 0 c).before 0 t d = iblk m c 0 t :=
  before0_0_of m (datas m 0 c) (A_eq m c 0) (after0_0 m c) t d
theorem before0_1 (c : Dev nD) (t : Fin cfg0.N) (d) : (datas m 0 c).before 1 t d = iblk m c 1 t :=
  before0_1_of m (datas m 0 c) (A_eq m c 1) (after0_1 m c) t d
theorem before0_2 (c : Dev nD) (t : Fin cfg0.N) (d) : (datas m 0 c).before 2 t d = iblk m c 2 t :=
  before0_2_of m (datas m 0 c) (A_eq m c 2) (after0_2 m c) t d
theorem before0_3 (c : Dev nD) (t : Fin cfg0.N) (d) : (datas m 0 c).before 3 t d = iblk m c 3 t :=
  before0_3_of m (datas m 0 c) (A_eq m c 3) (after0_3 m c) t d
theorem before0_4 (c : Dev nD) (t : Fin cfg0.N) (d) : (datas m 0 c).before 4 t d = iblk m c 4 t :=
  before0_4_of m (datas m 0 c) (A_eq m c 4) (after0_4 m c) t d

/-- What the body is called with at point `t`. -/
def bodyPre (c : Dev nD) (t : Fin cfg0.N) : sProp 𝕄 :=
  iprop((datas m 0 c).Φ t.castSucc ∗ (datas m 0 c).owesAt () t.castSucc
    ∗ (∃ d, owns (c : Thread nD τ) (ms0_0 t) fullShare ((datas m 0 c).before 0 t d))
    ∗ (∃ d, owns (c : Thread nD τ) (ms0_1 t) fullShare ((datas m 0 c).before 1 t d))
    ∗ (∃ d, owns (c : Thread nD τ) (ms0_2 t) fullShare ((datas m 0 c).before 2 t d))
    ∗ (∃ d, owns (c : Thread nD τ) (ms0_3 t) fullShare ((datas m 0 c).before 3 t d))
    ∗ (∃ d, owns (c : Thread nD τ) (ms0_4 t) fullShare ((datas m 0 c).before 4 t d))
    ∗ (∃ X, owns (c : Thread nD τ) (ms0_5 t) fullShare X)
    ∗ (∃ X, owns (c : Thread nD τ) (ms0_6 t) fullShare X)
    ∗ (∃ X, owns (c : Thread nD τ) (ms0_7 t) fullShare X))

/-- What it returns. -/
def bodyPost (c : Dev nD) (t : Fin cfg0.N) : sProp 𝕄 :=
  iprop((datas m 0 c).Φ t.succ ∗ (datas m 0 c).owesAt () t.succ
    ∗ (datas m 0 c).leavesExact 0 t
    ∗ (datas m 0 c).leavesExact 1 t
    ∗ (datas m 0 c).leavesExact 2 t
    ∗ (datas m 0 c).leavesExact 3 t
    ∗ (datas m 0 c).leavesExact 4 t
    ∗ (∃ X, owns (c : Thread nD τ) (ms0_5 t) fullShare X)
    ∗ (∃ X, owns (c : Thread nD τ) (ms0_6 t) fullShare X)
    ∗ (∃ X, owns (c : Thread nD τ) (ms0_7 t) fullShare X))

set_option maxHeartbeats 9600000 in
/-- The body at any point: the run of its case applies, whatever the scratch buffers hold, and gives them back at
    something. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (datas m 0 c).owesAt () t.succ = (datas m 0 c).owesAt () t.castSucc from rfl]
  rw [show (datas m 0 c).Φ t.succ = Pipeline.ΦA spec0 c from rfl, show (datas m 0 c).Φ t.castSucc = Pipeline.ΦA spec0 c from rfl, PhiA0_eq]
  have hN : t.val < 33 := lt_of_lt_of_eq t.isLt (show cfg0.N = 33 from N_0)
  rw [show (datas m 0 c).leavesExact 0 t = owns (c : Thread nD τ) (ms0_0 t) fullShare ((datas m 0 c).after 0 t) from by
    unfold Dat.leavesExact; rw [liveAt0_0 t], after0_0]
  rw [show (datas m 0 c).leavesExact 1 t = owns (c : Thread nD τ) (ms0_1 t) fullShare ((datas m 0 c).after 1 t) from by
    unfold Dat.leavesExact; rw [liveAt0_1 t], after0_1]
  rw [show (datas m 0 c).leavesExact 2 t = owns (c : Thread nD τ) (ms0_2 t) fullShare ((datas m 0 c).after 2 t) from by
    unfold Dat.leavesExact; rw [liveAt0_2 t], after0_2]
  rw [show (datas m 0 c).leavesExact 3 t = owns (c : Thread nD τ) (ms0_3 t) fullShare ((datas m 0 c).after 3 t) from by
    unfold Dat.leavesExact; rw [liveAt0_3 t], after0_3]
  rw [show (datas m 0 c).leavesExact 4 t = owns (c : Thread nD τ) (ms0_4 t) fullShare ((datas m 0 c).after 4 t) from by
    unfold Dat.leavesExact; rw [liveAt0_4 t], after0_4]
  by_cases h1 : 1 ≤ t.val
  · have h0 : ¬ t.val % 33 = 0 := by omega
    iintro ⟨⟨⟨HS0, HS1, ⟨%xs2, HS2⟩, ⟨%xs3, HS3⟩, HS4, ⟨%xs5, HS5⟩⟩, Hg⟩, Ho, ⟨%d0, H0⟩, ⟨%d1, H1⟩, ⟨%d2, H2⟩, ⟨%d3, H3⟩, ⟨%d4, H4⟩, H5, H6, H7⟩
    iapply ((runLater c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) xs2 xs3 xs5).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, ⟨%e5, H5⟩, ⟨%e6, H6⟩, ⟨%e7, H7⟩, ⟨%f0, HS0⟩, ⟨%f1, HS1⟩, ⟨%f2, HS2⟩, ⟨%f3, HS3⟩, ⟨%f4, HS4⟩, ⟨%f5, HS5⟩⟩
    isplitl [HS0 HS1 HS2 HS3 HS4 HS5 Hg]
    · isplitl [HS0 HS1 HS2 HS3 HS4 HS5]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexists _; unfold owns; iexists _; isplitr
          swap; · iexact HS2
          ipureintro; rfl
        isplitl [HS3]
        · iexists _; unfold owns; iexists _; isplitr
          swap; · iexact HS3
          ipureintro; rfl
        isplitl [HS4]
        · iexists _; unfold owns; iexists _; isplitr
          swap; · iexact HS4
          ipureintro; rfl
        iexists _; unfold owns; iexists _; isplitr
        swap; · iexact HS5
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; unfold owns; iexists _; isplitr
      swap; · iexact H5
      ipureintro; rfl
    isplitl [H6]
    · iexists _; unfold owns; iexists _; isplitr
      swap; · iexact H6
      ipureintro; rfl
    iexists _; unfold owns; iexists _; isplitr
    swap; · iexact H7
    ipureintro; rfl
  · have h0 : t.val % 33 = 0 := by omega
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, H6, H7⟩
    iapply ((runFirst c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2.2.2.2.2.2 d5 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, ⟨%e6, H6⟩, ⟨%e7, H7⟩, ⟨%f0, HS0⟩, ⟨%f1, HS1⟩, ⟨%f2, HS2⟩, ⟨%f3, HS3⟩, HS4, ⟨%f5, HS5⟩⟩
    isplitl [HS0 HS1 HS2 HS3 HS4 HS5 Hg]
    · isplitl [HS0 HS1 HS2 HS3 HS4 HS5]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexists _; unfold owns; iexists _; isplitr
          swap; · iexact HS2
          ipureintro; rfl
        isplitl [HS3]
        · iexists _; unfold owns; iexists _; isplitr
          swap; · iexact HS3
          ipureintro; rfl
        isplitl [HS4]
        · iexact HS4
        iexists _; unfold owns; iexists _; isplitr
        swap; · iexact HS5
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]
    · iexists _; unfold owns; iexists _; isplitr
      swap; · iexact H6
      ipureintro; rfl
    iexists _; unfold owns; iexists _; isplitr
    swap; · iexact H7
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point, the results' windows forgotten. -/
theorem body_obligation (c : Dev nD) : BodyObligation (datas m 0 c) (defs₀ (F := F)) Variants.none () Set.univ forgotten := fun t => by
  rw [bigSep_W0, bigSep_W0, defs₀_row]
  exact triple_restated (sound_body m c t) rfl .rfl fun _ => .rfl

/-! ## The run and the frame -/

set_option backward.isDefEq.respectTransparency.types false in
/-- The run: every input array ends as it began, every other buffer as the region found it, every counter at zero. -/
theorem run_main_quiescent : θ_run defs (onTc (τ := τ) (main (F := F))) (s₀ m ρ) (fun r => (Pipeline.RDat.FramePost cfg0 (fun c => (datas m 0 c).toRForget forgotten) (V m)) r ∧ r.2.sem = fun _ => 0) :=
  Pipeline.θ_run_frame_forget (Q' := _) cfgs (datas m) (0 : Fin 1) launch0 defs₀ Variants.none forgotten m ρ main
    (hbody := fun c => (body_obligation m c).loose) (hshare := fun c => (datas m 0 c).share_full fun _ => rfl)
    (howed := fun _ _ => rfl) (V := V m) (hmain := hmain m Variants.none) (hA := A_eq m) (hΦ := fun _ _ => rfl)

/-- The frame: the argument arrays end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 2 rfl).trans ((A_eq m c 2).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (run_main_quiescent m ρ)

end Cert.Kernel.Body

end
-- ==== Proof.Final.lean ====
/- What the three result arrays hold after the run of the kernel over the reals, as functions of the argument arrays:
   the rotated rows, a row's largest magnitude, its scale, its codes, and the product of the codes with the weights. -/
module

public import proofs.«01_k».proof.Proof.Run
public import Idealize.ShloMosaic.Lib.Pipeline.ValueKit
public import Idealize.ShloMosaic.Lib.Pipeline.ValueKit.Point

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.Sem
open Idealize.ShloMosaic.Pipeline (Dat Cfg Window)

/-! ## The results as functions of the arguments -/

/-- Lane `y 2` of the rotated row: its 256-lane chunk times the table, times the constant. -/
def gRot (X : Vec Ideal S2x4096x7168 .bf16) (H : Vec Ideal S256x256 .bf16) (y : S2x4096x7168.Idx) : EReal :=
  (∑ k : Fin 256, (X (ix3 (y 0 : Fin 2) (y 1 : Fin 4096) (⟨((y 2).val / 256 * 256 + k.val) % 7168, Nat.mod_lt _ (by decide)⟩ : Fin 7168) : S2x4096x7168.Idx) : EReal)
    * H (ix2 k (⟨(y 2).val % 256, Nat.mod_lt _ (by decide)⟩ : Fin 256) : S256x256.Idx)) * Ideal.ofBits .f32 0x3DB504F3#32

/-- The largest magnitude of a rotated row. -/
def gMax (X : Vec Ideal S2x4096x7168 .bf16) (H : Vec Ideal S256x256 .bf16) (b : Fin 2) (s : Fin 4096) : EReal :=
  Finset.univ.fold max (Ideal.ofBits .f32 0xFF800000#32) fun q : Fin 7168 => (FloatOps.absf (gRot X H (ix3 b s q)) : Ideal .f32)

/-- A row's scale. -/
def gScale (X : Vec Ideal S2x4096x7168 .bf16) (H : Vec Ideal S256x256 .bf16) : Vec Ideal S2x4096x1 .f32 := fun y =>
  scaleOf (gMax X H (y 0) (y 1))

/-- A lane's code. -/
def gCode (X : Vec Ideal S2x4096x7168 .bf16) (H : Vec Ideal S256x256 .bf16) : Vec Ideal S2x4096x7168 .i8 := fun y =>
  codeOf (scaleOf (gMax X H (y 0) (y 1))) (gRot X H y)

/-- The product of the codes with the weights, scaled by the row, scaled by the column, plus the bias. -/
def gY (X : Vec Ideal S2x4096x7168 .bf16) (H : Vec Ideal S256x256 .bf16) (W : Vec Ideal S7168x2560 .i8) (w b : Vec Ideal S2560 .f32) : Vec Ideal S2x4096x2560 .bf16 := fun y =>
  (∑ k : Fin 7168, wide (gCode X H (ix3 (y 0 : Fin 2) (y 1 : Fin 4096) k : S2x4096x7168.Idx)) * wide (W (ix2 k (y 2 : Fin 2560) : S7168x2560.Idx)))
    * scaleOf (gMax X H (y 0) (y 1)) * w (ix1 (y 2 : Fin 2560) : S2560.Idx) + b (ix1 (y 2 : Fin 2560) : S2560.Idx)

/-- The table the kernel multiplies by. -/
def tabK : Vec Ideal S256x256 .bf16 := fun i => FloatOps.ofBits (F := Ideal) .bf16 (lit0 (S256x256.rowMajor i))

/-! ## Where the blocks lie -/

theorem idx0 : ∀ t : Fin cfg0.N, win0_0.index t = ![min t.val 31 / 16, min t.val 31 % 16, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![(t.val - 1) / 16, (t.val - 1) % 16, 0] := (by decide +kernel : ∀ t : Fin grid0.N, _)
theorem idx6 : ∀ t : Fin cfg0.N, win0_6.index t = ![min t.val 31 / 16, min t.val 31 % 16, 0] := (by decide +kernel : ∀ t : Fin grid0.N, _)
theorem idx7 : ∀ t : Fin cfg0.N, win0_7.index t = ![min t.val 31 / 16, min t.val 31 % 16, 0] := (by decide +kernel : ∀ t : Fin grid0.N, _)

variable (m : (ℓ : Loc nD τ sig) → Buf (Elt Ideal) ℓ)

/-! ## The blocks, read in the argument arrays -/

/-- The row of the argument array that row `r` of point `t`'s block is. -/
def tokB (t : Fin cfg0.N) : Fin 2 := ⟨min t.val 31 / 16, by have := t.isLt; change _ < 33 at this; omega⟩
def tokS (t : Fin cfg0.N) (r : Fin 256) : Fin 4096 := ⟨min t.val 31 % 16 * 256 + r.val, by have := r.isLt; omega⟩

theorem rowsAt_apply (c : Dev nD) (t : Fin cfg0.N) (r : Fin 256) (q : Fin 7168) :
    rowsAt m c t (ix3 (0 : Fin 1) r q : S1x256x7168.Idx) = m ((c : Thread nD τ).loc main_arg0) (ix3 (tokB t) (tokS t r) q : S2x4096x7168.Idx) := by
  unfold rowsAt
  rw [← V_main_arg0 m c]
  blk_ext [iblk, idx0 t, tokB, tokS]

theorem wgtAt_eq (c : Dev nD) (t : Fin cfg0.N) : wgtAt m c t = m ((c : Thread nD τ).loc main_arg1) := by
  funext y
  unfold wgtAt
  rw [← V_main_arg1 m c]
  blk_ext [iblk, idx2 t]

theorem tabAt_eq (c : Dev nD) (t : Fin cfg0.N) : tabAt m c t = tabK := by
  funext y
  have e : ∀ i : S256x256.Idx, V m c main_cst i = tabK i := fun i => by
    unfold tabK; entry_read; rfl
  unfold tabAt
  rw [← e y]
  blk_ext [iblk, idx1 t]

theorem wscAt_apply (c : Dev nD) (t : Fin cfg0.N) (j : Fin 2560) :
    wscAt m c t (ix2 (0 : Fin 1) j : S1x2560.Idx) = m ((c : Thread nD τ).loc main_arg2) (ix1 j : S2560.Idx) := by
  unfold wscAt
  blk_ext! [iblk, idx3 t]

theorem biasAt_apply (c : Dev nD) (t : Fin cfg0.N) (j : Fin 2560) :
    biasAt m c t (ix2 (0 : Fin 1) j : S1x2560.Idx) = m ((c : Thread nD τ).loc main_arg3) (ix1 j : S2560.Idx) := by
  unfold biasAt
  blk_ext! [iblk, idx4 t]

/-- A rotated row of a block is the rotated row of the array. -/
theorem rotV_rows (c : Dev nD) (t : Fin cfg0.N) (H : Vec Ideal S256x256 .bf16) (r : Fin 256) (q : Fin 7168) :
    rotV (rowsAt m c t) H (ix2 r q : S256x7168.Idx) = gRot (m ((c : Thread nD τ).loc main_arg0)) H (ix3 (tokB t) (tokS t r) q : S2x4096x7168.Idx) := by
  unfold rotV rotTile gRot
  refine congrArg (· * Ideal.ofBits .f32 0x3DB504F3#32) (Finset.sum_congr rfl fun k _ => ?_)
  exact congrArg (· * (H _ : EReal)) (rowsAt_apply m c t r _)

theorem rowMax_rows (c : Dev nD) (t : Fin cfg0.N) (H : Vec Ideal S256x256 .bf16) (r : Fin 256) :
    rowMax (rowsAt m c t) H r = gMax (m ((c : Thread nD τ).loc main_arg0)) H (tokB t) (tokS t r) := by
  unfold rowMax gMax
  exact Finset.fold_congr fun q _ => congrArg (fun v => (FloatOps.absf v : Ideal .f32)) (rotV_rows m c t H r q)

theorem codeV_rows (c : Dev nD) (t : Fin cfg0.N) (H : Vec Ideal S256x256 .bf16) (r : Fin 256) (q : Fin 7168) :
    codeV (rowsAt m c t) H (ix2 r q : S256x7168.Idx) = gCode (m ((c : Thread nD τ).loc main_arg0)) H (ix3 (tokB t) (tokS t r) q : S2x4096x7168.Idx) := by
  unfold codeV gCode scaleV
  exact congrArg₂ codeOf (congrArg scaleOf (rowMax_rows m c t H r)) (rotV_rows m c t H r q)

/-! ## The result arrays -/

theorem final6 (c : Dev nD) : (datas m 0 c).arrAt 6 cfg0.N = gCode (m ((c : Thread nD τ).loc main_arg0)) tabK := by
  refine (datas m 0 c).arrAt_eq_of_covers 6 _ (by decide +kernel) fun t hf y => ?_
  blk_simp
  rw [after0_6, tabAt_eq]
  unfold codeB
  refine (codeV_rows m c t tabK (y 1) (y 2)).trans (congrArg (gCode _ _) ?_)
  blk_ext [idx6 t, tokB, tokS]

/-- A block's scale in the array of scales. -/
theorem scaleB_rows (c : Dev nD) (t : Fin cfg0.N) (H : Vec Ideal S256x256 .bf16) (r : Fin 256) :
    scaleB (rowsAt m c t) H (ix3 (0 : Fin 1) r (0 : Fin 1) : S1x256x1.Idx) = gScale (m ((c : Thread nD τ).loc main_arg0)) H (ix3 (tokB t) (tokS t r) (0 : Fin 1) : S2x4096x1.Idx) := by
  have h := rowMax_rows m c t H r
  generalize rowsAt m c t = R at *
  change scaleOf (rowMax R H r) = scaleOf (gMax _ H (tokB t) (tokS t r))
  rw [h]

theorem final7 (c : Dev nD) : (datas m 0 c).arrAt 7 cfg0.N = gScale (m ((c : Thread nD τ).loc main_arg0)) tabK := by
  refine (datas m 0 c).arrAt_eq_of_covers 7 _ (by decide +kernel) fun t hf y => ?_
  blk_simp
  rw [after0_7, tabAt_eq]
  have hy : y = (ix3 (0 : Fin 1) (y 1 : Fin 256) (0 : Fin 1) : S1x256x1.Idx) := by
    blk_ext
  refine (congrArg _ hy).trans ((scaleB_rows m c t tabK (y 1)).trans (congrArg (gScale _ _) ?_))
  blk_ext [idx7 t, tokB, tokS]

theorem flush5 : ∀ t : Fin cfg0.N, (cfg0.win 5).flush t = true → 1 ≤ t.val := (by decide +kernel : ∀ t : Fin grid0.N, _)

/-- The block of products a point stores, in the array of products. -/
theorem yB_rows (c : Dev nD) (t : Fin cfg0.N) (r : Fin 256) (j : Fin 2560) :
    yB (codeV (rowsAt m c (prev t)) tabK) (scaleV (rowsAt m c (prev t)) tabK) (m ((c : Thread nD τ).loc main_arg1)) (wscAt m c t) (biasAt m c t)
      (ix3 (0 : Fin 1) r j : S1x256x2560.Idx) = gY (m ((c : Thread nD τ).loc main_arg0)) tabK
    (m ((c : Thread nD τ).loc main_arg1)) (m ((c : Thread nD τ).loc main_arg2)) (m ((c : Thread nD τ).loc main_arg3))
      (ix3 (tokB (prev t)) (tokS (prev t) r) j : S2x4096x2560.Idx) := by
  have h1 := wscAt_apply m c t j
  have h2 := biasAt_apply m c t j
  have h3 := rowMax_rows m c (prev t) tabK r
  have h4 := fun k : Fin 7168 => codeV_rows m c (prev t) tabK r k
  generalize rowsAt m c (prev t) = R at *
  generalize wscAt m c t = w at *
  generalize biasAt m c t = b at *
  generalize (m ((c : Thread nD τ).loc main_arg0)) = X at *
  generalize (m ((c : Thread nD τ).loc main_arg1)) = W at *
  generalize (m ((c : Thread nD τ).loc main_arg2)) = ws at *
  generalize (m ((c : Thread nD τ).loc main_arg3)) = bs at *
  generalize tokB (prev t) = B at *
  generalize tokS (prev t) r = S at *
  change (∑ k : Fin 7168, wide (codeV R tabK (ix2 r k : S256x7168.Idx)) * wide (W (ix2 k j : S7168x2560.Idx))) * scaleOf (rowMax R tabK r)
    * w (ix2 (0 : Fin 1) j : S1x2560.Idx) + b (ix2 (0 : Fin 1) j : S1x2560.Idx) = (∑ k : Fin 7168, wide (gCode X tabK (ix3 B S k : S2x4096x7168.Idx)) * wide (W (ix2 k j : S7168x2560.Idx)))
    * scaleOf (gMax X tabK B S) * ws (ix1 j : S2560.Idx) + bs (ix1 j : S2560.Idx)
  rw [h1, h2, h3, Finset.sum_congr rfl fun k _ => congrArg (fun u : BitVec 8 => wide u * wide (W (ix2 k j : S7168x2560.Idx))) (h4 k)]

theorem final5 (c : Dev nD) : (datas m 0 c).arrAt 5 cfg0.N = gY (m ((c : Thread nD τ).loc main_arg0)) tabK
    (m ((c : Thread nD τ).loc main_arg1)) (m ((c : Thread nD τ).loc main_arg2)) (m ((c : Thread nD τ).loc main_arg3)) := by
  refine (datas m 0 c).arrAt_eq_of_covers 5 _ (by decide +kernel) fun t hf y => ?_
  have ht := flush5 t hf
  blk_simp
  rw [after0_5, tabAt_eq, wgtAt_eq]
  have hy : y = (ix3 (0 : Fin 1) (y 1 : Fin 256) (y 2 : Fin 2560) : S1x256x2560.Idx) := by
    blk_ext
  refine (congrArg _ hy).trans ((yB_rows m c t (y 1) (y 2)).trans (congrArg (gY _ _ _ _ _) ?_))
  have := t.isLt
  change _ < 33 at this
  blk_ext [idx5 t, tokB, tokS, prev]

/-! ## The run -/

/-- After the run the three results hold those functions of the arguments, and the arguments are unchanged. -/
theorem run (ρ : Dev nD → PrngReg) : θ_run defs (onTc (τ := τ) (main (F := Ideal))) ⟨m, fun _ => 0, ρ⟩ (fun r => ∀ c : Dev nD,
    r.2.mem ((c.tc : Thread nD τ).loc main_v2_0) = gY (m ((c : Thread nD τ).loc main_arg0)) tabK
      (m ((c : Thread nD τ).loc main_arg1)) (m ((c : Thread nD τ).loc main_arg2)) (m ((c : Thread nD τ).loc main_arg3))
    ∧ r.2.mem ((c.tc : Thread nD τ).loc main_v2_1) = gCode (m ((c : Thread nD τ).loc main_arg0)) tabK
    ∧ r.2.mem ((c.tc : Thread nD τ).loc main_v2_2) = gScale (m ((c : Thread nD τ).loc main_arg0)) tabK
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨((h c).1 5).trans (final5 m c), ((h c).1 6).trans (final6 m c), ((h c).1 7).trans (final7 m c),
    ((h c).1 0).trans (((datas m 0 c).arrAt_in 0 rfl _).trans ((A_eq m c 0).trans (V_main_arg0 m c))),
    ((h c).1 2).trans (((datas m 0 c).arrAt_in 2 rfl _).trans ((A_eq m c 2).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (run_main m ρ)

end Cert.KernelIdeal.Body
-- ==== Proof.Ref.lean ====
/- The reference's arrays, entry by entry. -/
module

public import proofs.«01_k».proof.Proof.Gen.ReferenceIdeal.Run
public import Idealize.ShloMosaic.Lib.Pointwise
public import Idealize.ShloMosaic.Lib.Pipeline.ValueKit.Tiles
public import Idealize.ShloMosaic.Lib.Pipeline.ValueKit.Point

@[expose] public section

set_option maxRecDepth 16384

noncomputable section

namespace Cert.ReferenceIdeal.Value

open Cert.ReferenceIdeal Cert.ReferenceIdeal.Gen
open Idealize.ShloMosaic Idealize.ShloMosaic.TcCoe Idealize.SL.Sem

/-- The Hadamard table the reference multiplies by. -/
def tabR : FVec Ideal S128x128 .f32 := fun i => FloatOps.ofBits (F := Ideal) .f32 (lit0 (S128x128.rowMajor i))

/-- The rotated rows. -/
def rRot (X : Vec Ideal S2x4096x7168 .bf16) : FVec Ideal S2x4096x7168 .f32 :=
  shapeCast _ (Host.dotGeneral dot_S2x4096x56x128_S128x128_S2x4096x56x128_3_0_012_1_n_n (some .fp32)
    (shapeCast _ (extf (F := Ideal) .f32 X bitsLt_bf16_f32) shapeCasts_S2x4096x7168_S2x4096x56x128) tabR) shapeCasts_S2x4096x56x128_S2x4096x7168

/-- Every row's largest magnitude. -/
def rMax (X : Vec Ideal S2x4096x7168 .bf16) : FVec Ideal S2x4096x1 .f32 :=
  broadcastInDim S2x4096x1 ![0, 1] bcast_S2x4096_S2x4096x1_0_1
    (Host.reduce FloatOps.maximumf (Host.absf (rRot X)) (constant (F := Ideal) S_ .f32 0xFF800000#32) reducesTo_S2x4096x7168_S2x4096_d2 h_S_)

/-- Every row's scale. -/
def rScale (X : Vec Ideal S2x4096x7168 .bf16) : FVec Ideal S2x4096x1 .f32 :=
  select (cmpf .oeq (rMax X) (broadcastInDim S2x4096x1 ![] bcast_S_S2x4096x1 (constant (F := Ideal) S_ .f32 0x00000000#32)))
    (broadcastInDim S2x4096x1 ![] bcast_S_S2x4096x1 (constant (F := Ideal) S_ .f32 0x3F800000#32))
    (Host.divf (rMax X) (broadcastInDim S2x4096x1 ![] bcast_S_S2x4096x1 (constant (F := Ideal) S_ .f32 0x42FE0000#32)))

/-- The codes, as 32-bit integers. -/
def rCode (X : Vec Ideal S2x4096x7168 .bf16) : IVec S2x4096x7168 32 :=
  fptosi 32 (minimumf (broadcastInDim S2x4096x7168 ![] bcast_S_S2x4096x7168 (id (constant (F := Ideal) S_ .f32 0x42FE0000#32)))
    (maximumf (broadcastInDim S2x4096x7168 ![] bcast_S_S2x4096x7168 (id (constant (F := Ideal) S_ .f32 0xC2FE0000#32)))
      (Host.roundeven (Host.divf (rRot X) (broadcastInDim S2x4096x7168 ![0, 1, 2] bcast_S2x4096x1_S2x4096x7168_0_1_2 (rScale X))))))

/-- The products, scaled, plus the bias. -/
def rY (X : Vec Ideal S2x4096x7168 .bf16) (W : Vec Ideal S7168x2560 .i8) (w z : Vec Ideal S2560 .f32) : FVec Ideal S2x4096x2560 .bf16 :=
  truncf .bf16 (addf (mulf (mulf (Host.dotGeneral dot_S2x4096x7168_S7168x2560_S2x4096x2560_2_0_01_1_n_n (some .fp32) (sitofp (F := Ideal) .f32 (rCode X)) (sitofp (F := Ideal) .f32 (extsi 32 W natLt_8_32)))
    (broadcastInDim S2x4096x2560 ![0, 1, 2] bcast_S2x4096x1_S2x4096x2560_0_1_2 (rScale X))) (broadcastInDim S2x4096x2560 ![0, 1, 2] bcast_S1x1x2560_S2x4096x2560_0_1_2 (broadcastInDim S1x1x2560 ![2] bcast_S2560_S1x1x2560_2 w)))
    (broadcastInDim S2x4096x2560 ![0, 1, 2] bcast_S1x1x2560_S2x4096x2560_0_1_2 (broadcastInDim S1x1x2560 ![2] bcast_S2560_S1x1x2560_2 z))) bitsLt_bf16_f32

theorem rRot_apply (X : Vec Ideal S2x4096x7168 .bf16) (b : Fin 2) (s : Fin 4096) (q : Fin 7168) :
    rRot X (ix3 b s q : S2x4096x7168.Idx) = ∑ k : Fin 128, (X (ix3 b s (⟨(q.val / 128 * 128 + k.val) % 7168, Nat.mod_lt _ (by decide)⟩ : Fin 7168) : S2x4096x7168.Idx) : EReal)
      * tabR (ix2 k (⟨q.val % 128, Nat.mod_lt _ (by decide)⟩ : Fin 128) : S128x128.Idx) := by
  unfold rRot
  generalize tabR = H
  pointwise
  refine Finset.sum_congr rfl fun k _ => congrArg (· * _) (congrArg X (congrArg (fun i : Fin 7168 => (ix3 b s i : S2x4096x7168.Idx)) (Fin.ext ?_)))
  have := q.isLt
  have := k.isLt
  show _ = _ % 7168
  rw [Nat.mod_eq_of_lt (by omega)]

variable (v : FVec Ideal S2x4096x7168 .f32) (a : FVec Ideal S2x4096x1 .f32) (o p : FVec Ideal S_ .f32)

theorem rowmax_apply (b : Fin 2) (s : Fin 4096) :
    broadcastInDim S2x4096x1 ![0, 1] bcast_S2x4096_S2x4096x1_0_1 (Host.reduce FloatOps.maximumf (Host.absf v) o reducesTo_S2x4096x7168_S2x4096_d2 h_S_) (ix3 b s (0 : Fin 1) : S2x4096x1.Idx) =
      Finset.univ.fold max (o (Shape.Idx.first h_S_)) fun q : Fin 7168 => (FloatOps.absf (v (ix3 b s q : S2x4096x7168.Idx)) : Ideal .f32) := by
  pointwise

theorem bcast1_apply (y : S2x4096x1.Idx) : broadcastInDim S2x4096x1 ![] bcast_S_S2x4096x1 o y = o ix0 := by
  pointwise

theorem clip_apply (b : Fin 2) (s : Fin 4096) (q : Fin 7168) :
    fptosi 32 (minimumf (broadcastInDim S2x4096x7168 ![] bcast_S_S2x4096x7168 p)
      (maximumf (broadcastInDim S2x4096x7168 ![] bcast_S_S2x4096x7168 o)
        (Host.roundeven (Host.divf v (broadcastInDim S2x4096x7168 ![0, 1, 2] bcast_S2x4096x1_S2x4096x7168_0_1_2 a))))) (ix3 b s q : S2x4096x7168.Idx)
     = Ideal.fptosi 32 (min (p ix0) (max (o ix0) (Ideal.liftRound Ideal.roundHalfEven
        (Ideal.div (v (ix3 b s q : S2x4096x7168.Idx)) (a (ix3 b s (0 : Fin 1) : S2x4096x1.Idx)))))) := by
  pointwise
  rfl

theorem y_apply (C : IVec S2x4096x7168 32) (W : Vec Ideal S7168x2560 .i8) (w z : Vec Ideal S2560 .f32) (b : Fin 2) (s : Fin 4096) (j : Fin 2560) :
    truncf .bf16 (addf (mulf (mulf (Host.dotGeneral dot_S2x4096x7168_S7168x2560_S2x4096x2560_2_0_01_1_n_n (some .fp32) (sitofp (F := Ideal) .f32 C) (sitofp (F := Ideal) .f32 (extsi 32 W natLt_8_32)))
      (broadcastInDim S2x4096x2560 ![0, 1, 2] bcast_S2x4096x1_S2x4096x2560_0_1_2 a)) (broadcastInDim S2x4096x2560 ![0, 1, 2] bcast_S1x1x2560_S2x4096x2560_0_1_2 (broadcastInDim S1x1x2560 ![2] bcast_S2560_S1x1x2560_2 w)))
      (broadcastInDim S2x4096x2560 ![0, 1, 2] bcast_S1x1x2560_S2x4096x2560_0_1_2 (broadcastInDim S1x1x2560 ![2] bcast_S2560_S1x1x2560_2 z))) bitsLt_bf16_f32 (ix3 b s j : S2x4096x2560.Idx)
    = (∑ k : Fin 7168, (FloatOps.sitofp (F := Ideal) .f32 (C (ix3 b s k : S2x4096x7168.Idx)) : EReal) * (FloatOps.sitofp (F := Ideal) .f32 (BitVec.signExtend 32 (W (ix2 k j : S7168x2560.Idx)) : BitVec 32) : EReal))
      * a (ix3 b s (0 : Fin 1) : S2x4096x1.Idx) * w (ix1 j : S2560.Idx) + z (ix1 j : S2560.Idx) := by
  pointwise

theorem rMax_apply (X : Vec Ideal S2x4096x7168 .bf16) (b : Fin 2) (s : Fin 4096) :
    rMax X (ix3 b s (0 : Fin 1) : S2x4096x1.Idx) =
      Finset.univ.fold max (Ideal.ofBits .f32 0xFF800000#32) fun q : Fin 7168 => (FloatOps.absf (rRot X (ix3 b s q : S2x4096x7168.Idx)) : Ideal .f32) :=
  rowmax_apply (rRot X) (constant (F := Ideal) S_ .f32 0xFF800000#32) b s

theorem select_apply' (u : FVec Ideal S2x4096x1 .f32) (z : FVec Ideal S2x4096x1 .f32) (e d : FVec Ideal S2x4096x1 .f32) (y : S2x4096x1.Idx) :
    select (cmpf .oeq u z) e (Host.divf u d) y = if u y = z y then e y else Ideal.div (u y) (d y) := by
  pointwise

theorem rScale_apply (X : Vec Ideal S2x4096x7168 .bf16) (y : S2x4096x1.Idx) :
    rScale X y = if rMax X y = (0 : EReal) then (1 : EReal) else Ideal.div (rMax X y) (Ideal.ofBits .f32 0x42FE0000#32) := by
  unfold rScale
  rw [select_apply', bcast1_apply, bcast1_apply, bcast1_apply]
  generalize rMax X y = u
  show (if u = Ideal.ofBits .f32 0x00000000#32 then Ideal.ofBits .f32 0x3F800000#32 else Ideal.div u (Ideal.ofBits .f32 0x42FE0000#32)) = _
  rw [Ideal.ofBits_zero_f32, Ideal.ofBits_one_f32]

theorem rCode_apply (X : Vec Ideal S2x4096x7168 .bf16) (b : Fin 2) (s : Fin 4096) (q : Fin 7168) :
    rCode X (ix3 b s q : S2x4096x7168.Idx) = Ideal.fptosi 32
      (min (Ideal.ofBits .f32 0x42FE0000#32) (max (Ideal.ofBits .f32 0xC2FE0000#32) (Ideal.liftRound Ideal.roundHalfEven
        (Ideal.div (rRot X (ix3 b s q : S2x4096x7168.Idx)) (rScale X (ix3 b s (0 : Fin 1) : S2x4096x1.Idx)))))) :=
  clip_apply (rRot X) (rScale X) (constant (F := Ideal) S_ .f32 0xC2FE0000#32) (constant (F := Ideal) S_ .f32 0x42FE0000#32) b s q

theorem rY_apply (X : Vec Ideal S2x4096x7168 .bf16) (W : Vec Ideal S7168x2560 .i8) (w z : Vec Ideal S2560 .f32) (b : Fin 2) (s : Fin 4096) (j : Fin 2560) :
    rY X W w z (ix3 b s j : S2x4096x2560.Idx)
    = (∑ k : Fin 7168, (FloatOps.sitofp (F := Ideal) .f32 (rCode X (ix3 b s k : S2x4096x7168.Idx)) : EReal) * (FloatOps.sitofp (F := Ideal) .f32 (BitVec.signExtend 32 (W (ix2 k j : S7168x2560.Idx)) : BitVec 32) : EReal))
      * rScale X (ix3 b s (0 : Fin 1) : S2x4096x1.Idx) * w (ix1 j : S2560.Idx) + z (ix1 j : S2560.Idx) :=
  y_apply (rScale X) (rCode X) W w z b s j

theorem narrow_apply (C : IVec S2x4096x7168 32) (y : S2x4096x7168.Idx) : trunci 8 C natLt_8_32 y = BitVec.setWidth 8 (C y) := rfl

/-- The reference's run, its results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = rY (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v30) = trunci 8 (rCode (m ((c.tc : Thread nD τ).loc main_arg0))) natLt_8_32
      ∧ r.2.mem ((c.tc : Thread nD τ).loc main_v11) = rScale (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run (F := Ideal) m ρ

end Cert.ReferenceIdeal.Value
-- ==== Proof.Numbers.lean ====
/- Facts about extended reals and small integers: a finite nonnegative factor moves into a sum, rounding to even is
   monotone and keeps integers, so clipping to ±127 before or after rounding is the same, and a number between −127 and
   127 is not changed by the passage through eight bits. -/
module

public import Idealize.ShloMosaic.PureOps.Ideal
public import Idealize.ShloMosaic.Lib.IdealHost

@[expose] public section

namespace Cert.Numbers

open Idealize.ShloMosaic

/-! ## Sums -/

theorem sum_mul_coe {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih,
      EReal.right_distrib_of_nonneg_of_ne_top (EReal.coe_nonneg.mpr hc) (EReal.coe_ne_top c)]

/-! ## Constants -/

/-- The rotation's constant, the 32-bit float nearest the reciprocal of the square root of 128, is a finite positive number. -/
theorem rsqrt128 : ∃ c : ℝ, 0 ≤ c ∧ Ideal.ofBits .f32 0x3DB504F3#32 = (c : EReal) ∧ Ideal.ofBits .f32 0xBDB504F3#32 = ((-c : ℝ) : EReal) := by
  refine ⟨(2 ^ 23 + (0x3504F3 : ℕ) : ℝ) * (2 : ℝ) ^ (-27 : ℤ), by positivity, ?_, ?_⟩
  · simp [Ideal.ofBits, Ideal.ieee, -EReal.coe_mul]; norm_num
  · simp [Ideal.ofBits, Ideal.ieee, -EReal.coe_mul, -EReal.coe_neg]; norm_num

theorem c127 : Ideal.ofBits .f32 0x42FE0000#32 = ((127 : ℝ) : EReal) := by
  simp [Ideal.ofBits, Ideal.ieee, -EReal.coe_mul]; norm_num

theorem cm127 : Ideal.ofBits .f32 0xC2FE0000#32 = ((-127 : ℝ) : EReal) := by
  simp [Ideal.ofBits, Ideal.ieee, -EReal.coe_mul, -EReal.coe_neg]; norm_num

theorem negzero_bf16 : Ideal.ofBits .bf16 0x8000#16 = 0 := by
  simp [Ideal.ofBits, Ideal.ieee]

/-! ## Rounding -/

theorem floor_le_rhe (r : ℝ) : ⌊r⌋ ≤ Ideal.roundHalfEven r := by
  unfold Ideal.roundHalfEven
  dsimp only
  split_ifs <;> omega

theorem rhe_le_floor (r : ℝ) : Ideal.roundHalfEven r ≤ ⌊r⌋ + 1 := by
  unfold Ideal.roundHalfEven
  dsimp only
  split_ifs <;> omega

theorem rhe_mono : Monotone Ideal.roundHalfEven := by
  intro r s h
  rcases lt_or_eq_of_le (Int.floor_mono h) with hlt | heq
  · exact (rhe_le_floor r).trans ((by omega : ⌊r⌋ + 1 ≤ ⌊s⌋).trans (floor_le_rhe s))
  · unfold Ideal.roundHalfEven
    dsimp only
    rw [← heq]
    split_ifs <;> first | omega | (exfalso; linarith)

theorem rhe_int (n : ℤ) : Ideal.roundHalfEven (n : ℝ) = n := by
  unfold Ideal.roundHalfEven
  simp

theorem lift_mono : Monotone (Ideal.liftRound Ideal.roundHalfEven) := by
  intro x y h
  induction x with
  | bot => exact bot_le
  | top => rw [top_le_iff] at h; subst h; exact le_refl _
  | coe r =>
    induction y with
    | bot => exact absurd h (by simp)
    | top => exact le_top
    | coe s =>
      show (((Ideal.roundHalfEven r : ℤ) : ℝ) : EReal) ≤ (((Ideal.roundHalfEven s : ℤ) : ℝ) : EReal)
      exact EReal.coe_le_coe_iff.mpr (Int.cast_le.mpr (rhe_mono (EReal.coe_le_coe_iff.mp h)))

theorem lift_127 : Ideal.liftRound Ideal.roundHalfEven ((127 : ℝ) : EReal) = ((127 : ℝ) : EReal) := by
  show (((Ideal.roundHalfEven (127 : ℝ) : ℤ) : ℝ) : EReal) = _
  have := rhe_int 127
  norm_num at this
  rw [this]; norm_num

theorem lift_m127 : Ideal.liftRound Ideal.roundHalfEven ((-127 : ℝ) : EReal) = ((-127 : ℝ) : EReal) := by
  show (((Ideal.roundHalfEven (-127 : ℝ) : ℤ) : ℝ) : EReal) = _
  have := rhe_int (-127)
  norm_num at this
  rw [this]; norm_num

/-- Clipping to ±127 before rounding is clipping after it. -/
theorem round_clip (x : EReal) :
    Ideal.liftRound Ideal.roundHalfEven (min (Ideal.ofBits .f32 0x42FE0000#32) (max (Ideal.ofBits .f32 0xC2FE0000#32) x))
      = min (Ideal.ofBits .f32 0x42FE0000#32) (max (Ideal.ofBits .f32 0xC2FE0000#32) (Ideal.liftRound Ideal.roundHalfEven x)) := by
  rw [lift_mono.map_min, lift_mono.map_max, c127, cm127, lift_127, lift_m127]

/-! ## Codes -/

/-- A clipped number converts to an integer between −127 and 127. -/
theorem fptosi_clip (x : EReal) : ∃ n : ℤ, -127 ≤ n ∧ n ≤ 127 ∧
    Ideal.fptosi 32 (min (Ideal.ofBits .f32 0x42FE0000#32) (max (Ideal.ofBits .f32 0xC2FE0000#32) x)) = BitVec.ofInt 32 n := by
  rw [c127, cm127]
  have h : ∃ r : ℝ, -127 ≤ r ∧ r ≤ 127 ∧ min ((127 : ℝ) : EReal) (max ((-127 : ℝ) : EReal) x) = (r : EReal) := by
    induction x with
    | bot => exact ⟨-127, le_refl _, by norm_num, by rw [max_eq_left bot_le, min_eq_right (EReal.coe_le_coe_iff.mpr (by norm_num))]⟩
    | top => exact ⟨127, by norm_num, le_refl _, by rw [max_eq_right le_top, min_eq_left le_top]⟩
    | coe r => exact ⟨min 127 (max (-127) r), le_min (by norm_num) (le_max_left _ _), min_le_left _ _, by
        rw [EReal.coe_strictMono.monotone.map_min, EReal.coe_strictMono.monotone.map_max]⟩
  obtain ⟨r, h1, h2, e⟩ := h
  rw [e]
  have a1 : -127 ≤ (if 0 ≤ r then ⌊r⌋ else ⌈r⌉) ∧ (if 0 ≤ r then ⌊r⌋ else ⌈r⌉) ≤ 127 := by
    constructor
    · split_ifs
      · exact Int.le_floor.mpr (by push_cast; exact h1)
      · exact Int.le_of_lt_add_one (by
          have := Int.le_ceil r
          have : ((-127 : ℤ) : ℝ) < ((⌈r⌉ + 1 : ℤ) : ℝ) := by push_cast; linarith
          exact_mod_cast this)
    · split_ifs
      · exact Int.le_of_lt_add_one (Int.floor_lt.mpr (by push_cast; linarith))
      · exact Int.ceil_le.mpr (by push_cast; exact h2)
  refine ⟨if 0 ≤ r then ⌊r⌋ else ⌈r⌉, a1.1, a1.2, ?_⟩
  show BitVec.ofInt 32 (max (-((2 ^ 31 : ℕ) : ℤ)) (min (((2 ^ 31 : ℕ) : ℤ) - 1) (if 0 ≤ r then ⌊r⌋ else ⌈r⌉))) = _
  rw [min_eq_right (by norm_num; omega), max_eq_right (by norm_num; omega)]

theorem narrow : ∀ i : Fin 255, (BitVec.setWidth 8 (BitVec.ofInt 32 ((i.val : ℤ) - 127))).toInt = (BitVec.ofInt 32 ((i.val : ℤ) - 127)).toInt := by
  decide +kernel

theorem narrow_int (n : ℤ) (h1 : -127 ≤ n) (h2 : n ≤ 127) : (BitVec.setWidth 8 (BitVec.ofInt 32 n)).toInt = (BitVec.ofInt 32 n).toInt := by
  have h := narrow ⟨(n + 127).toNat, by omega⟩
  have e : (((n + 127).toNat : ℕ) : ℤ) - 127 = n := by omega
  dsimp only at h
  rwa [e] at h

end Cert.Numbers
-- ==== Proof.Table.lean ====
/- The kernel's 256 × 256 table against the reference's 128 × 128 one: the smaller stands twice on the larger's diagonal, its
   two values written as plus and minus one, and every other entry is a zero. -/
module

public import proofs.«01_k».proof.Proof.Gen.KernelIdeal
public import proofs.«01_k».proof.Proof.Gen.ReferenceIdeal

@[expose] public section

set_option maxRecDepth 16384

namespace Cert.Table

/-- Whether a property holds below a bound. -/
def below (p : ℕ → Bool) : ℕ → Bool
  | 0 => true
  | n + 1 => p n && below p n

theorem of_below (p : ℕ → Bool) (n : ℕ) (h : below p n = true) : ∀ i < n, p i = true := by
  induction n with
  | zero => intro i hi; omega
  | succ n ih =>
    intro i hi
    simp only [below, Bool.and_eq_true] at h
    rcases Nat.lt_succ_iff_lt_or_eq.mp hi with h' | h'
    · exact ih h.2 i h'
    · exact h' ▸ h.1

/-- The kernel's entry `(k, j)`, as a number. -/
noncomputable def kEnt (k j : ℕ) : ℕ := (Cert.KernelIdeal.lit0t (k * 256 + j)).toNat
/-- The reference's entry `(k, j)`, as a number. -/
noncomputable def rEnt (k j : ℕ) : ℕ := (Cert.ReferenceIdeal.lit0t (k * 128 + j)).toNat

/-- Off the diagonal blocks a zero, of either sign; on them plus or minus one, as the reference's entry is positive or negative. -/
noncomputable def entOk (k j : ℕ) : Bool :=
  bif (k / 128).beq (j / 128) then
    (bif (kEnt k j).beq 0x3F80 then (rEnt (k % 128) (j % 128)).beq 0x3DB504F3 else ((kEnt k j).beq 0xBF80 && (rEnt (k % 128) (j % 128)).beq 0xBDB504F3))
  else (kEnt k j % 0x8000).beq 0

/-- Eight rows of the table, from row `8 i`. -/
noncomputable def blkOk (i : ℕ) : Bool := below (fun r => below (fun j => entOk (i * 8 + r) j) 256) 8

end Cert.Table
-- ==== Proof.TableA.lean ====
/- The tables compared, rows 0 to 63. -/
module

public import proofs.«01_k».proof.Proof.Table

@[expose] public section

set_option maxRecDepth 16384

namespace Cert.Table

theorem blk0 : blkOk 0 = true := by decide +kernel
theorem blk1 : blkOk 1 = true := by decide +kernel
theorem blk2 : blkOk 2 = true := by decide +kernel
theorem blk3 : blkOk 3 = true := by decide +kernel
theorem blk4 : blkOk 4 = true := by decide +kernel
theorem blk5 : blkOk 5 = true := by decide +kernel
theorem blk6 : blkOk 6 = true := by decide +kernel
theorem blk7 : blkOk 7 = true := by decide +kernel

end Cert.Table
-- ==== Proof.TableB.lean ====
/- The tables compared, rows 64 to 127. -/
module

public import proofs.«01_k».proof.Proof.Table

@[expose] public section

set_option maxRecDepth 16384

namespace Cert.Table

theorem blk8 : blkOk 8 = true := by decide +kernel
theorem blk9 : blkOk 9 = true := by decide +kernel
theorem blk10 : blkOk 10 = true := by decide +kernel
theorem blk11 : blkOk 11 = true := by decide +kernel
theorem blk12 : blkOk 12 = true := by decide +kernel
theorem blk13 : blkOk 13 = true := by decide +kernel
theorem blk14 : blkOk 14 = true := by decide +kernel
theorem blk15 : blkOk 15 = true := by decide +kernel

end Cert.Table
-- ==== Proof.TableC.lean ====
/- The tables compared, rows 128 to 191. -/
module

public import proofs.«01_k».proof.Proof.Table

@[expose] public section

set_option maxRecDepth 16384

namespace Cert.Table

theorem blk16 : blkOk 16 = true := by decide +kernel
theorem blk17 : blkOk 17 = true := by decide +kernel
theorem blk18 : blkOk 18 = true := by decide +kernel
theorem blk19 : blkOk 19 = true := by decide +kernel
theorem blk20 : blkOk 20 = true := by decide +kernel
theorem blk21 : blkOk 21 = true := by decide +kernel
theorem blk22 : blkOk 22 = true := by decide +kernel
theorem blk23 : blkOk 23 = true := by decide +kernel

end Cert.Table
-- ==== Proof.TableD.lean ====
/- The tables compared, rows 192 to 255. -/
module

public import proofs.«01_k».proof.Proof.Table

@[expose] public section

set_option maxRecDepth 16384

namespace Cert.Table

theorem blk24 : blkOk 24 = true := by decide +kernel
theorem blk25 : blkOk 25 = true := by decide +kernel
theorem blk26 : blkOk 26 = true := by decide +kernel
theorem blk27 : blkOk 27 = true := by decide +kernel
theorem blk28 : blkOk 28 = true := by decide +kernel
theorem blk29 : blkOk 29 = true := by decide +kernel
theorem blk30 : blkOk 30 = true := by decide +kernel
theorem blk31 : blkOk 31 = true := by decide +kernel

end Cert.Table
-- ==== Proof.TableAll.lean ====
/- The tables compared, every entry. -/
module

public import proofs.«01_k».proof.Proof.TableA
public import proofs.«01_k».proof.Proof.TableB
public import proofs.«01_k».proof.Proof.TableC
public import proofs.«01_k».proof.Proof.TableD

@[expose] public section

set_option maxRecDepth 16384

namespace Cert.Table

theorem blk : ∀ i : ℕ, i < 32 → blkOk i = true
  | 0, _ => blk0
  | 1, _ => blk1
  | 2, _ => blk2
  | 3, _ => blk3
  | 4, _ => blk4
  | 5, _ => blk5
  | 6, _ => blk6
  | 7, _ => blk7
  | 8, _ => blk8
  | 9, _ => blk9
  | 10, _ => blk10
  | 11, _ => blk11
  | 12, _ => blk12
  | 13, _ => blk13
  | 14, _ => blk14
  | 15, _ => blk15
  | 16, _ => blk16
  | 17, _ => blk17
  | 18, _ => blk18
  | 19, _ => blk19
  | 20, _ => blk20
  | 21, _ => blk21
  | 22, _ => blk22
  | 23, _ => blk23
  | 24, _ => blk24
  | 25, _ => blk25
  | 26, _ => blk26
  | 27, _ => blk27
  | 28, _ => blk28
  | 29, _ => blk29
  | 30, _ => blk30
  | 31, _ => blk31
  | n + 32, h => absurd h (by omega)

theorem ent (k j : ℕ) (hk : k < 256) (hj : j < 256) : entOk k j = true := by
  have h := of_below _ 8 (blk (k / 8) (by omega)) (k % 8) (by omega)
  have e : k / 8 * 8 + k % 8 = k := by omega
  have h2 := of_below _ 256 h j hj
  rw [e] at h2
  exact h2

end Cert.Table
-- ==== Proof.Pair.lean ====
/- The kernel's results are the reference's: the two rotations agree entry by entry, hence the largest magnitudes, the
   scales, the codes and the products. -/
module

public import proofs.«01_k».proof.Proof.Final
public import proofs.«01_k».proof.Proof.Ref
public import proofs.«01_k».proof.Proof.Numbers
public import proofs.«01_k».proof.Proof.TableAll
public import Idealize.ShloMosaic.Lib.Pointwise

@[expose] public section

set_option maxRecDepth 16384

noncomputable section

namespace Cert.Pair

open Cert.KernelIdeal Cert.KernelIdeal.Body
open Cert.ReferenceIdeal.Value (tabR rRot rMax rScale rCode rY rRot_apply rMax_apply rScale_apply rCode_apply rY_apply narrow_apply)
open Idealize.ShloMosaic Idealize.ShloMosaic.TcCoe Idealize.SL.Sem
open Cert.Numbers

/-! ## The tables -/

theorem rm256 (k j : Fin 256) : (S256x256.rowMajor (ix2 k j : S256x256.Idx)).val = k.val * 256 + j.val := by
  show k.val * 256 + (j.val * 1 + 0) = _
  omega

theorem rm128 (k j : Fin 128) : (Cert.ReferenceIdeal.S128x128.rowMajor (ix2 k j : Cert.ReferenceIdeal.S128x128.Idx)).val = k.val * 128 + j.val := by
  show k.val * 128 + (j.val * 1 + 0) = _
  omega

theorem tabK_bits (k j : Fin 256) : tabK (ix2 k j : S256x256.Idx) = Ideal.ofBits .bf16 (BitVec.ofNat 16 (Cert.Table.kEnt k.val j.val)) := by
  unfold tabK Cert.Table.kEnt
  rw [BitVec.ofNat_toNat, BitVec.setWidth_eq, ← rm256 k j]
  rfl

theorem tabR_bits (k j : Fin 128) : tabR (ix2 k j : Cert.ReferenceIdeal.S128x128.Idx) = Ideal.ofBits .f32 (BitVec.ofNat 32 (Cert.Table.rEnt k.val j.val)) := by
  unfold tabR Cert.Table.rEnt
  rw [BitVec.ofNat_toNat, BitVec.setWidth_eq, ← rm128 k j]
  rfl

theorem kEnt_lt (k j : ℕ) : Cert.Table.kEnt k j < 65536 := BitVec.isLt _

/-- Off the diagonal blocks the kernel's entry is zero. -/
theorem tab_off (k j : Fin 256) (h : k.val / 128 ≠ j.val / 128) : tabK (ix2 k j : S256x256.Idx) = (0 : EReal) := by
  have e := Cert.Table.ent k.val j.val k.isLt j.isLt
  rw [tabK_bits]
  unfold Cert.Table.entOk at e
  rw [show (k.val / 128).beq (j.val / 128) = false from by { cases hc : (k.val / 128).beq (j.val / 128) with | false => rfl | true => exact absurd (Nat.eq_of_beq_eq_true hc) h }, cond_false] at e
  have e2 : Cert.Table.kEnt k.val j.val % 0x8000 = 0 := Nat.eq_of_beq_eq_true e
  have l := kEnt_lt k.val j.val
  rcases (by omega : Cert.Table.kEnt k.val j.val = 0 ∨ Cert.Table.kEnt k.val j.val = 0x8000) with h0 | h0
  · rw [h0]; exact Ideal.ofBits_zero_bf16
  · rw [h0]; exact negzero_bf16

/-- On them it is, times the constant, the reference's entry. -/
theorem tab_on (k j : Fin 256) (h : k.val / 128 = j.val / 128) :
    tabK (ix2 k j : S256x256.Idx) * Ideal.ofBits .f32 0x3DB504F3#32
      = (tabR (ix2 (⟨k.val % 128, Nat.mod_lt _ (by decide)⟩ : Fin 128) (⟨j.val % 128, Nat.mod_lt _ (by decide)⟩ : Fin 128) : Cert.ReferenceIdeal.S128x128.Idx) : EReal) := by
  have e := Cert.Table.ent k.val j.val k.isLt j.isLt
  rw [tabK_bits, tabR_bits]
  unfold Cert.Table.entOk at e
  rw [show (k.val / 128).beq (j.val / 128) = true from (congrArg _ h.symm).trans (Nat.beq_refl _), cond_true] at e
  obtain ⟨c, -, hc, hn⟩ := rsqrt128
  dsimp only
  cases hb : (Cert.Table.kEnt k.val j.val).beq 0x3F80 with
  | true =>
    rw [hb, cond_true] at e
    rw [Nat.eq_of_beq_eq_true hb, Nat.eq_of_beq_eq_true e]
    show Ideal.ofBits .bf16 0x3F80#16 * _ = Ideal.ofBits .f32 0x3DB504F3#32
    rw [Ideal.ofBits_one_bf16, one_mul]
  | false =>
    rw [hb, cond_false, Bool.and_eq_true] at e
    rw [Nat.eq_of_beq_eq_true e.1, Nat.eq_of_beq_eq_true e.2]
    show Ideal.ofBits .bf16 0xBF80#16 * _ = Ideal.ofBits .f32 0xBDB504F3#32
    rw [Ideal.ofBits_neg_one_bf16, hc, hn, ← EReal.coe_neg, ← EReal.coe_mul, neg_one_mul]

/-! ## The rotation -/

variable (X : Vec Ideal S2x4096x7168 .bf16)

/-- The rotated rows agree. -/
theorem rot_eq (b : Fin 2) (s : Fin 4096) (q : Fin 7168) :
    gRot X tabK (ix3 b s q : S2x4096x7168.Idx) = (rRot X (ix3 b s q : Cert.ReferenceIdeal.S2x4096x7168.Idx) : EReal) := by
  rw [rRot_apply]
  show (∑ k : Fin 256, (X (ix3 b s (⟨(q.val / 256 * 256 + k.val) % 7168, Nat.mod_lt _ (by decide)⟩ : Fin 7168) : S2x4096x7168.Idx) : EReal)
    * tabK (ix2 k (⟨q.val % 256, Nat.mod_lt _ (by decide)⟩ : Fin 256) : S256x256.Idx)) * Ideal.ofBits .f32 0x3DB504F3#32 = _
  obtain ⟨c, c0, hc, -⟩ := rsqrt128
  rw [hc, sum_mul_coe _ _ c c0, ← hc, Fin.sum_univ_tiles 2 128 rfl, Fin.sum_univ_two]
  have hq := q.isLt
  have on : ∀ (i : Fin 2) (k : Fin 128), i.val = q.val % 256 / 128 →
      (X (ix3 b s (⟨(q.val / 256 * 256 + (i.val * 128 + k.val)) % 7168, Nat.mod_lt _ (by decide)⟩ : Fin 7168) : S2x4096x7168.Idx) : EReal)
        * tabK (ix2 (⟨i.val * 128 + k.val, by have := i.isLt; have := k.isLt; omega⟩ : Fin 256) (⟨q.val % 256, Nat.mod_lt _ (by decide)⟩ : Fin 256) : S256x256.Idx) * Ideal.ofBits .f32 0x3DB504F3#32
      = (X (ix3 b s (⟨(q.val / 128 * 128 + k.val) % 7168, Nat.mod_lt _ (by decide)⟩ : Fin 7168) : S2x4096x7168.Idx) : EReal)
        * tabR (ix2 k (⟨q.val % 128, Nat.mod_lt _ (by decide)⟩ : Fin 128) : Cert.ReferenceIdeal.S128x128.Idx) := by
    intro i k hi
    have hk := k.isLt
    have := i.isLt
    rw [mul_assoc, tab_on _ _ (by show (i.val * 128 + k.val) / 128 = q.val % 256 / 128; omega)]
    refine congrArg₂ (fun u v : EReal => u * v) (congrArg X (congrArg (fun i : Fin 7168 => (ix3 b s i : S2x4096x7168.Idx)) (Fin.ext ?_)))
      (congrArg₂ (fun u v : Fin 128 => (tabR (ix2 u v : Cert.ReferenceIdeal.S128x128.Idx) : EReal)) (Fin.ext ?_) (Fin.ext ?_))
    · show (q.val / 256 * 256 + (i.val * 128 + k.val)) % 7168 = (q.val / 128 * 128 + k.val) % 7168
      rw [show q.val / 256 * 256 + (i.val * 128 + k.val) = q.val / 128 * 128 + k.val by omega]
    · show (i.val * 128 + k.val) % 128 = k.val
      omega
    · show q.val % 256 % 128 = q.val % 128
      omega
  have off : ∀ (i : Fin 2) (k : Fin 128), i.val ≠ q.val % 256 / 128 →
      (X (ix3 b s (⟨(q.val / 256 * 256 + (i.val * 128 + k.val)) % 7168, Nat.mod_lt _ (by decide)⟩ : Fin 7168) : S2x4096x7168.Idx) : EReal)
        * tabK (ix2 (⟨i.val * 128 + k.val, by have := i.isLt; have := k.isLt; omega⟩ : Fin 256) (⟨q.val % 256, Nat.mod_lt _ (by decide)⟩ : Fin 256) : S256x256.Idx) * Ideal.ofBits .f32 0x3DB504F3#32
      = 0 := by
    intro i k hi
    have hk := k.isLt
    have := i.isLt
    rw [tab_off _ _ (by show (i.val * 128 + k.val) / 128 ≠ q.val % 256 / 128; omega), mul_zero, zero_mul]
  rcases (by omega : q.val % 256 / 128 = 0 ∨ q.val % 256 / 128 = 1) with h | h
  · refine (congrArg₂ (fun u v : EReal => u + v) (Finset.sum_congr rfl fun k _ => on 0 k h.symm)
      (Finset.sum_eq_zero fun k _ => off 1 k (by rw [h]; decide))).trans (add_zero _)
  · refine (congrArg₂ (fun u v : EReal => u + v) (Finset.sum_eq_zero fun k _ => off 0 k (by rw [h]; decide))
      (Finset.sum_congr rfl fun k _ => on 1 k h.symm)).trans (zero_add _)

/-! ## Scales, codes, products -/

theorem max_eq (b : Fin 2) (s : Fin 4096) : gMax X tabK b s = (rMax X (ix3 b s (0 : Fin 1) : Cert.ReferenceIdeal.S2x4096x1.Idx) : EReal) := by
  rw [rMax_apply]
  unfold gMax
  exact Finset.fold_congr fun q _ => congrArg (fun v => (FloatOps.absf v : Ideal .f32)) (rot_eq X b s q)

theorem scaleOf_eq (b : Fin 2) (s : Fin 4096) : scaleOf (gMax X tabK b s) = (rScale X (ix3 b s (0 : Fin 1) : Cert.ReferenceIdeal.S2x4096x1.Idx) : EReal) := by
  rw [rScale_apply, max_eq]
  rfl

theorem codeOf_eq (b : Fin 2) (s : Fin 4096) (q : Fin 7168) :
    gCode X tabK (ix3 b s q : S2x4096x7168.Idx) = BitVec.setWidth 8 (rCode X (ix3 b s q : Cert.ReferenceIdeal.S2x4096x7168.Idx)) := by
  show codeOf (scaleOf (gMax X tabK b s)) (gRot X tabK (ix3 b s q : S2x4096x7168.Idx)) = _
  rw [rCode_apply, scaleOf_eq, rot_eq]
  unfold codeOf
  rw [round_clip]
  rfl

/-- A code read back from eight bits is the code. -/
theorem wide_code (b : Fin 2) (s : Fin 4096) (q : Fin 7168) :
    wide (gCode X tabK (ix3 b s q : S2x4096x7168.Idx)) = (FloatOps.sitofp (F := Ideal) .f32 (rCode X (ix3 b s q : Cert.ReferenceIdeal.S2x4096x7168.Idx)) : EReal) := by
  rw [codeOf_eq, rCode_apply]
  obtain ⟨n, h1, h2, e⟩ := fptosi_clip (Ideal.liftRound Ideal.roundHalfEven
        (Ideal.div (rRot X (ix3 b s q : Cert.ReferenceIdeal.S2x4096x7168.Idx)) (rScale X (ix3 b s (0 : Fin 1) : Cert.ReferenceIdeal.S2x4096x1.Idx))))
  rw [e]
  show (((BitVec.setWidth 8 (BitVec.ofInt 32 n)).toInt : ℝ) : EReal) = (((BitVec.ofInt 32 n).toInt : ℝ) : EReal)
  rw [narrow_int n h1 h2]

/-- A weight widened in one step or two. -/
theorem wide_wgt (w : BitVec 8) : wide w = (FloatOps.sitofp (F := Ideal) .f32 (BitVec.signExtend 32 w) : EReal) := by
  show ((w.toInt : ℝ) : EReal) = (((BitVec.signExtend 32 w).toInt : ℝ) : EReal)
  rw [BitVec.toInt_signExtend_of_le (by decide)]

theorem ix3_eta {n0 n1 n2 : ℕ} (y : (⟨3, ![n0, n1, n2]⟩ : Shape).Idx) : y = (ix3 (y 0 : Fin n0) (y 1 : Fin n1) (y 2 : Fin n2)) := by
  funext a; fin_cases a <;> rfl

theorem gScale_eq : gScale X tabK = rScale X := by
  funext y
  have hy : y = (ix3 (y 0 : Fin 2) (y 1 : Fin 4096) (0 : Fin 1) : S2x4096x1.Idx) := by
    funext a; fin_cases a
    · rfl
    · rfl
    · exact Fin.ext (by have : (y 2).val < 1 := (y 2).isLt; show (y 2).val = 0; omega)
  rw [hy]
  exact scaleOf_eq X (y 0) (y 1)

theorem gCode_eq : gCode X tabK = trunci 8 (rCode X) Cert.ReferenceIdeal.Gen.natLt_8_32 := by
  funext y
  rw [ix3_eta y]
  exact codeOf_eq X (y 0) (y 1) (y 2)

theorem y_eq (W : Vec Ideal S7168x2560 .i8) (w z : Vec Ideal S2560 .f32) (b : Fin 2) (s : Fin 4096) (j : Fin 2560) :
    gY X tabK W w z (ix3 b s j : S2x4096x2560.Idx) = (rY X W w z (ix3 b s j : Cert.ReferenceIdeal.S2x4096x2560.Idx) : EReal) := by
  rw [rY_apply]
  show (∑ k : Fin 7168, wide (gCode X tabK (ix3 b s k : S2x4096x7168.Idx)) * wide (W (ix2 k j : S7168x2560.Idx)))
    * scaleOf (gMax X tabK b s) * w (ix1 j : S2560.Idx) + z (ix1 j : S2560.Idx) = _
  rw [scaleOf_eq, Finset.sum_congr rfl fun k _ => congrArg₂ (fun u v : EReal => u * v) (wide_code X b s k) (wide_wgt (W (ix2 k j : S7168x2560.Idx)))]

theorem gY_eq (W : Vec Ideal S7168x2560 .i8) (w z : Vec Ideal S2560 .f32) : gY X tabK W w z = rY X W w z := by
  funext y
  rw [ix3_eta y]
  exact y_eq X W w z (y 0) (y 1) (y 2)

end Cert.Pair
-- ==== Proof.lean ====
module

public import proofs.«01_k».proof.Defs
public import proofs.«01_k».proof.Proof.Gen.Kernel
public import proofs.«01_k».proof.Proof.Gen.Kernel.Frame
public import proofs.«01_k».proof.Proof.Gen.Kernel.Skeleton
public import proofs.«01_k».proof.Proof.Gen.KernelIdeal
public import proofs.«01_k».proof.Proof.Gen.KernelIdeal.Frame
public import proofs.«01_k».proof.Proof.Gen.KernelIdeal.Skeleton
public import proofs.«01_k».proof.Proof.Gen.ReferenceIdeal
public import proofs.«01_k».proof.Proof.Gen.ReferenceIdeal.Run
public import proofs.«01_k».proof.Proof.Run
public import proofs.«01_k».proof.Proof.KRun
public import proofs.«01_k».proof.Proof.Pair
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference, a program of host operations only, ends with its arguments unchanged and every counter at zero. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- From the same arguments the kernel and the reference, read over the reals, end with equal results. -/
theorem algebraic : Cert.algebraic_KernelIdeal_ReferenceIdeal := by
  intro m g m' g' hpre hagree
  refine ⟨_, _, _, Cert.KernelIdeal.Body.run m g, (θ_run Cert.ReferenceIdeal.defs _ _).mono (fun r h c => ?_) (Cert.ReferenceIdeal.Value.run_named m' g')⟩
  obtain ⟨a0, a1, a2, a3⟩ := hagree c
  obtain ⟨h0, h1, h2, h3⟩ := h c
  refine ⟨h0.trans ?_, h1.trans ?_, h2.trans ?_, h3⟩
  · rw [a0, a1, a2, a3]
    exact (Cert.Pair.gY_eq _ _ _ _).symm
  · rw [a0]
    exact (Cert.Pair.gCode_eq _).symm
  · rw [a0]
    exact (Cert.Pair.gScale_eq _).symm

theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ, frame_reference, trivial, algebraic⟩

end Cert.Proof

end
